-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 512, 1024]⟩ ⟨3, ![64, 512, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x64 : Shape := ⟨2, ![512, 64]⟩
abbrev S2048x1 : Shape := ⟨2, ![2048, 1]⟩
abbrev S8x512x1024 : Shape := ⟨3, ![8, 512, 1024]⟩
abbrev S2048x1024 : Shape := ⟨2, ![2048, 1024]⟩
abbrev S8x256x1024 : Shape := ⟨3, ![8, 256, 1024]⟩
abbrev S7 : Shape := ⟨1, ![7]⟩
abbrev S_ : Shape := ⟨0, ![]⟩
abbrev S256x256 : Shape := ⟨2, ![256, 256]⟩
abbrev S1x64 : Shape := ⟨2, ![1, 64]⟩
abbrev S256x1 : Shape := ⟨2, ![256, 1]⟩
abbrev S256x64 : Shape := ⟨2, ![256, 64]⟩
abbrev S256 : Shape := ⟨1, ![256]⟩
abbrev S64 : Shape := ⟨1, ![64]⟩
abbrev S2048x256 : Shape := ⟨2, ![2048, 256]⟩
abbrev S256x512 : Shape := ⟨2, ![256, 512]⟩
abbrev S32x512 : Shape := ⟨2, ![32, 512]⟩
abbrev S1x512x1024 : Shape := ⟨3, ![1, 512, 1024]⟩
abbrev S512x1024 : Shape := ⟨2, ![512, 1024]⟩
abbrev S32x1024 : Shape := ⟨2, ![32, 1024]⟩
abbrev S1x32x1024 : Shape := ⟨3, ![1, 32, 1024]⟩
abbrev S1 : Shape := ⟨1, ![1]⟩
abbrev S1x256x1024 : Shape := ⟨3, ![1, 256, 1024]⟩
abbrev S256x1024 : Shape := ⟨2, ![256, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x512, .bf16⟩
  | .hbm, ⟨1, _⟩ => ⟨S512x64, .bf16⟩
  | .hbm, ⟨2, _⟩ => ⟨S2048x1, .i32⟩
  | .hbm, ⟨3, _⟩ => ⟨S8x512x1024, .bf16⟩
  | .hbm, ⟨4, _⟩ => ⟨S2048x1024, .f32⟩
  | .local _ .vmem, ⟨0, _⟩ => ⟨S2048x512, .bf16⟩
  | .local _ .vmem, ⟨1, _⟩ => ⟨S2048x1, .i32⟩
  | .local _ .vmem, ⟨2, _⟩ => ⟨S8x512x1024, .bf16⟩
  | .local _ .vmem, ⟨3, _⟩ => ⟨S2048x1024, .f32⟩
  | .local _ .vmem, ⟨4, _⟩ => ⟨S8x256x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_86 : BitVec 32 := 1#32
  let v247 : BitVec 32 := Scalar.muli v7 c1_i32_86
  let v248 : BitVec 32 := Scalar.addi c0_i32_87 v247
  v248.toNat
def k0_dev4 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_94 : BitVec 32 := 1#32
  let v257 : BitVec 32 := Scalar.muli v5 c1_i32_94
  let v258 : BitVec 32 := Scalar.addi c0_i32_95 v257
  v258.toNat
def k0_dev5 (d0 : Dev nD) : Nat :=
  let c0_i32_126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_125 : BitVec 32 := 1#32
  let v298 : BitVec 32 := Scalar.muli v7 c1_i32_125
  let v299 : BitVec 32 := Scalar.addi c0_i32_126 v298
  v299.toNat
def k0_dev6 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_144 : BitVec 32 := 1#32
  let v316 : BitVec 32 := Scalar.muli v5 c1_i32_144
  let v317 : BitVec 32 := Scalar.addi c0_i32_145 v316
  v317.toNat
def k0_dev7 (d0 : Dev nD) : Nat :=
  let c0_i32_197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_196 : BitVec 32 := 1#32
  let v393 : BitVec 32 := Scalar.muli v7 c1_i32_196
  let v394 : BitVec 32 := Scalar.addi c0_i32_197 v393
  v394.toNat
def k0_dev8 (d0 : Dev nD) : Nat :=
  let c0_i32_216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_215 : BitVec 32 := 1#32
  let v411 : BitVec 32 := Scalar.muli v5 c1_i32_215
  let v412 : BitVec 32 := Scalar.addi c0_i32_216 v411
  v412.toNat
def k0_dev9 (d0 : Dev nD) : Nat :=
  let c0_i32_269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_268 : BitVec 32 := 1#32
  let v488 : BitVec 32 := Scalar.muli v7 c1_i32_268
  let v489 : BitVec 32 := Scalar.addi c0_i32_269 v488
  v489.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x512 : Shape := ⟨2, ![2048, 512]⟩
abbrev S512x64 : Shape := ⟨2, ![512, 64]⟩
abbrev S2048x1 : Shape := ⟨2, ![2048, 1]⟩
abbrev S64x512x1024 : Shape := ⟨3, ![64, 512, 1024]⟩
abbrev S2048 : Shape := ⟨1, ![2048]⟩
abbrev S1x2048 : Shape := ⟨2, ![1, 2048]⟩
abbrev S2048x2048 : Shape := ⟨2, ![2048, 2048]⟩
abbrev S_ : Shape := ⟨0, ![]⟩
abbrev S64 : Shape := ⟨1, ![64]⟩
abbrev S1x64 : Shape := ⟨2, ![1, 64]⟩
abbrev S2048x64 : Shape := ⟨2, ![2048, 64]⟩
abbrev S2048x64x1024 : Shape := ⟨3, ![2048, 64, 1024]⟩
abbrev S2048x64x1 : Shape := ⟨3, ![2048, 64, 1]⟩
abbrev S2048x1024 : Shape := ⟨2, ![2048, 1024]⟩

abbrev nBuf : Space → Nat
  | .hbm => 41
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x64, .bf16⟩
  | .hbm, ⟨2, _⟩ => ⟨S2048x1, .i32⟩
  | .hbm, ⟨3, _⟩ => ⟨S64x512x1024, .bf16⟩
  | .hbm, ⟨4, _⟩ => ⟨S2048, .i32⟩
  | .hbm, ⟨5, _⟩ => ⟨S2048, .i32⟩
  | .hbm, ⟨6, _⟩ => ⟨S1x2048, .i32⟩
  | .hbm, ⟨7, _⟩ => ⟨S2048x1, .i32⟩
  | .hbm, ⟨8, _⟩ => ⟨S2048x2048, .i32⟩
  | .hbm, ⟨9, _⟩ => ⟨S2048x2048, .i32⟩
  | .hbm, ⟨10, _⟩ => ⟨S2048x2048, .i1⟩
  | .hbm, ⟨11, _⟩ => ⟨S1x2048, .i32⟩
  | .hbm, ⟨12, _⟩ => ⟨S2048x1, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S2048x2048, .i1⟩
  | .hbm, ⟨17, _⟩ => ⟨S2048x2048, .i32⟩
  | .hbm, ⟨18, _⟩ => ⟨S_, .i32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i1⟩
  | .hbm, ⟨23, _⟩ => ⟨S2048x1, .i32⟩
  | .hbm, ⟨24, _⟩ => ⟨S64, .i32⟩
  | .hbm, ⟨25, _⟩ => ⟨S1x64, .i32⟩
  | .hbm, ⟨26, _⟩ => ⟨S2048x64, .i32⟩
  | .hbm, ⟨27, _⟩ => ⟨S2048x64, .i32⟩
  | .hbm, ⟨28, _⟩ => ⟨S2048x64, .i1⟩
  | .hbm, ⟨29, _⟩ => ⟨S2048x1, .i1⟩
  | .hbm, ⟨30, _⟩ => ⟨S2048x64, .i1⟩
  | .hbm, ⟨31, _⟩ => ⟨S2048x64, .i1⟩
  | .hbm, ⟨32, _⟩ => ⟨S2048x64x1024, .f32⟩
  | .hbm, ⟨33, _⟩ => ⟨S2048x64x1, .i1⟩
  | .hbm, ⟨34, _⟩ => ⟨S_, .f32⟩
  | .hbm, ⟨35, _⟩ => ⟨S_, .f32⟩
  | .hbm, ⟨36, _⟩ => ⟨S2048x64x1024, .i1⟩
  | .hbm, ⟨37, _⟩ => ⟨S2048x64x1024, .f32⟩
  | .hbm, ⟨38, _⟩ => ⟨S2048x64x1024, .f32⟩
  | .hbm, ⟨39, _⟩ => ⟨S_, .f32⟩
  | .hbm, ⟨40, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v28 : Ref sig .tc := ⟨.hbm, 38, rfl⟩
abbrev main_cst_1 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.Common.lean ====
/- The mixture-of-experts kernel's machine facts: the ring of eight devices, the eight slots of the gather buffer,
   the semaphore cells, and what each device's slots hold. Everything is over any float values `F`. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Rounds
public import Idealize.ShloMosaic.Lib.Pipeline.Launch
public import Idealize.ShloMosaic.Lib.Pipeline.Kit
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The round library's state over this program's semaphores, two duty names. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

/-! ## The ring -/

set_option backward.proofsInPublic true in
/-- The device to the right. -/
def nxt (c : Dev nD) : Dev nD := ⟨(c.val + 1) % 8, Nat.mod_lt _ (by decide)⟩
set_option backward.proofsInPublic true in
/-- The device to the left. -/
def prv (c : Dev nD) : Dev nD := ⟨(c.val + 7) % 8, Nat.mod_lt _ (by decide)⟩
/-- The left neighbour of the right neighbour. -/
theorem prv_nxt (c : Dev nD) : prv (nxt c) = c := by revert c; decide
/-- The right neighbour of the left neighbour. -/
theorem nxt_prv (c : Dev nD) : nxt (prv c) = c := by revert c; decide

/-- The ring as a permutation. -/
def ring : Dev nD ≃ Dev nD := ⟨nxt, prv, prv_nxt, nxt_prv⟩

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = prv c := Fin.ext (k0_dev4_eq c)
theorem dev5_eq (c : Dev nD) : (⟨k0_dev5 c, k0_dev5_lt c⟩ : Dev nD) = nxt c := Fin.ext (k0_dev5_eq c)
theorem dev6_eq (c : Dev nD) : (⟨k0_dev6 c, k0_dev6_lt c⟩ : Dev nD) = prv c := Fin.ext (k0_dev6_eq c)
theorem dev7_eq (c : Dev nD) : (⟨k0_dev7 c, k0_dev7_lt c⟩ : Dev nD) = nxt c := Fin.ext (k0_dev7_eq c)
theorem dev8_eq (c : Dev nD) : (⟨k0_dev8 c, k0_dev8_lt c⟩ : Dev nD) = prv c := Fin.ext (k0_dev8_eq c)
theorem dev9_eq (c : Dev nD) : (⟨k0_dev9 c, k0_dev9_lt c⟩ : Dev nD) = nxt c := Fin.ext (k0_dev9_eq c)

/-- Transfer `h` goes right for `h < 4` and left otherwise: its target, and the device whose transfer `h` lands here. -/
def tgt (c : Dev nD) (h : Fin 7) : Dev nD := if h.val < 4 then nxt c else prv c
/-- The device from which copy `h` comes. -/
def snd (c : Dev nD) (h : Fin 7) : Dev nD := if h.val < 4 then prv c else nxt c
theorem snd_tgt (c : Dev nD) (h : Fin 7) : snd (tgt c h) h = c := by revert c h; decide
theorem tgt_snd (c : Dev nD) (h : Fin 7) : tgt (snd c h) h = c := by revert c h; decide

set_option backward.proofsInPublic true in
/-- The slot transfer `h` reads, and the slot of its target it fills. -/
def src (h : Fin 7) : Fin 8 := if h.val = 4 then 0 else ⟨h.val, by omega⟩
set_option backward.proofsInPublic true in
/-- The slot that copy `h` fills. -/
def dst (h : Fin 7) : Fin 8 := ⟨h.val + 1, by omega⟩

set_option backward.proofsInPublic true in
/-- The device whose products slot `s` of device `c` ends up holding. -/
def org (c : Dev nD) (s : Fin 8) : Dev nD :=
  if s.val ≤ 4 then ⟨(c.val + 8 - s.val) % 8, Nat.mod_lt _ (by decide)⟩ else ⟨(c.val + (s.val - 4)) % 8, Nat.mod_lt _ (by decide)⟩
theorem org_zero (c : Dev nD) : org c 0 = c := by revert c; decide
/-- What a transfer moves belongs at its target. -/
theorem org_step (c : Dev nD) (h : Fin 7) : org (tgt c h) (dst h) = org c (src h) := by revert c h; decide

/-! ## The slots -/

/-- The buffer of slots. -/
abbrev cM : Memref sig .tc .vmem S8x256x1024 .bf16 := Memref.whole cc0_scratch0

theorem inb_slot (k : Fin 8) : ∀ a, (![k.val, 0, 0] : Fin 3 → ℕ) a + S1x256x1024.size a ≤ S8x256x1024.size a := by
  revert k; decide
/-- The rectangle of a slot. -/
abbrev slotR (k : Fin 8) : Rect S8x256x1024 := Rect.unit (s := S8x256x1024) ![k.val, 0, 0] S1x256x1024.size (inb_slot k)
/-- Slot `k` of the gather buffer as the transfers name it. -/
def slotM (k : Fin 8) : Memref sig .tc .vmem S256x1024 .bf16 :=
  (cM.slice (slotR k) (fun _ => rfl)).squeeze S256x1024 squeezes_S1x256x1024_S256x1024

theorem slot_0 : (cM.slice (Rect.unit (s := S8x256x1024) ![0, 0, 0] ![1, 256, 1024] inb_S8x256x1024_S1x256x1024_0_0_0) (fun _ => rfl)).squeeze S256x1024 squeezes_S1x256x1024_S256x1024 = slotM 0 := rfl
theorem slot_1 : (cM.slice (Rect.unit (s := S8x256x1024) ![1, 0, 0] ![1, 256, 1024] inb_S8x256x1024_S1x256x1024_1_0_0) (fun _ => rfl)).squeeze S256x1024 squeezes_S1x256x1024_S256x1024 = slotM 1 := rfl
theorem slot_2 : (cM.slice (Rect.unit (s := S8x256x1024) ![2, 0, 0] ![1, 256, 1024] inb_S8x256x1024_S1x256x1024_2_0_0) (fun _ => rfl)).squeeze S256x1024 squeezes_S1x256x1024_S256x1024 = slotM 2 := rfl
theorem slot_3 : (cM.slice (Rect.unit (s := S8x256x1024) ![3, 0, 0] ![1, 256, 1024] inb_S8x256x1024_S1x256x1024_3_0_0) (fun _ => rfl)).squeeze S256x1024 squeezes_S1x256x1024_S256x1024 = slotM 3 := rfl
theorem slot_4 : (cM.slice (Rect.unit (s := S8x256x1024) ![4, 0, 0] ![1, 256, 1024] inb_S8x256x1024_S1x256x1024_4_0_0) (fun _ => rfl)).squeeze S256x1024 squeezes_S1x256x1024_S256x1024 = slotM 4 := rfl
theorem slot_5 : (cM.slice (Rect.unit (s := S8x256x1024) ![5, 0, 0] ![1, 256, 1024] inb_S8x256x1024_S1x256x1024_5_0_0) (fun _ => rfl)).squeeze S256x1024 squeezes_S1x256x1024_S256x1024 = slotM 5 := rfl
theorem slot_6 : (cM.slice (Rect.unit (s := S8x256x1024) ![6, 0, 0] ![1, 256, 1024] inb_S8x256x1024_S1x256x1024_6_0_0) (fun _ => rfl)).squeeze S256x1024 squeezes_S1x256x1024_S256x1024 = slotM 6 := rfl
theorem slot_7 : (cM.slice (Rect.unit (s := S8x256x1024) ![7, 0, 0] ![1, 256, 1024] inb_S8x256x1024_S1x256x1024_7_0_0) (fun _ => rfl)).squeeze S256x1024 squeezes_S1x256x1024_S256x1024 = slotM 7 := rfl

/-- The index set of slot `k`: the leading coordinate is `k`. -/
def slotSet (k : Fin 8) : Finset S8x256x1024.Idx := Finset.univ.filter fun i => (i 0).val = k.val
/-- Membership in a slot. -/
theorem mem_slotSet {k : Fin 8} {i : S8x256x1024.Idx} : i ∈ slotSet k ↔ (i 0).val = k.val := by
  unfold slotSet; rw [Finset.mem_filter]; exact and_iff_right (Finset.mem_univ _)

/-- A slot's indices. -/
theorem slot_set (k : Fin 8) : (slotM k).view.set = slotSet k := by
  unfold slotM
  rw [Memref.set_view_squeeze]
  refine Finset.ext fun i => ?_
  show i ∈ ((View.whole cc0_scratch0).slice (slotR k)).set ↔ _
  rw [View.set_slice_whole, Rect.mem_set_unit, mem_slotSet]
  constructor
  · intro h; have h0 := h 0
    simp only [Matrix.cons_val_zero] at h0
    have : S1x256x1024.size 0 = 1 := rfl
    omega
  · intro h a
    fin_cases a
    · show k.val ≤ (i 0).val ∧ (i 0).val < k.val + 1; omega
    · exact ⟨Nat.zero_le _, by show (i 1).val < 0 + 256; have : (i 1).val < 256 := (i 1).isLt; omega⟩
    · exact ⟨Nat.zero_le _, by show (i 2).val < 0 + 1024; have : (i 2).val < 1024 := (i 2).isLt; omega⟩

/-- The credit of one slot's transfer. -/
abbrev N : ℕ := (slotM 0).view.dmaCredit
theorem N_pos : 0 < N := View.dmaCredit_pos _ (by decide)
theorem credit_slot (k : Fin 8) : (slotM k).view.dmaCredit = N := rfl

/-! ## The semaphores -/

abbrev barS : Sem sig := (SemArray.scalar (sig.barrier 0 rfl) : Sems sig S_).sem
set_option backward.proofsInPublic true in
abbrev sendS (h : Fin 7) : DmaSem sig := ⟨4 + h.val, by have := h.isLt; show 4 + h.val < 18; omega⟩
set_option backward.proofsInPublic true in
abbrev recvS (h : Fin 7) : DmaSem sig := ⟨11 + h.val, by have := h.isLt; show 11 + h.val < 18; omega⟩

theorem send_0 : ((cc0_scratch1.slice (Rect.unit (s := S7) ![0] ![1] inb_S7_S1_0)).squeeze S_ squeezes_S1_S_).sem = sendS 0 := rfl
theorem send_1 : ((cc0_scratch1.slice (Rect.unit (s := S7) ![1] ![1] inb_S7_S1_1)).squeeze S_ squeezes_S1_S_).sem = sendS 1 := rfl
theorem send_2 : ((cc0_scratch1.slice (Rect.unit (s := S7) ![2] ![1] inb_S7_S1_2)).squeeze S_ squeezes_S1_S_).sem = sendS 2 := rfl
theorem send_3 : ((cc0_scratch1.slice (Rect.unit (s := S7) ![3] ![1] inb_S7_S1_3)).squeeze S_ squeezes_S1_S_).sem = sendS 3 := rfl
theorem send_4 : ((cc0_scratch1.slice (Rect.unit (s := S7) ![4] ![1] inb_S7_S1_4)).squeeze S_ squeezes_S1_S_).sem = sendS 4 := rfl
theorem send_5 : ((cc0_scratch1.slice (Rect.unit (s := S7) ![5] ![1] inb_S7_S1_5)).squeeze S_ squeezes_S1_S_).sem = sendS 5 := rfl
theorem send_6 : ((cc0_scratch1.slice (Rect.unit (s := S7) ![6] ![1] inb_S7_S1_6)).squeeze S_ squeezes_S1_S_).sem = sendS 6 := rfl
theorem recv_0 : ((cc0_scratch2.slice (Rect.unit (s := S7) ![0] ![1] inb_S7_S1_0)).squeeze S_ squeezes_S1_S_).sem = recvS 0 := rfl
theorem recv_1 : ((cc0_scratch2.slice (Rect.unit (s := S7) ![1] ![1] inb_S7_S1_1)).squeeze S_ squeezes_S1_S_).sem = recvS 1 := rfl
theorem recv_2 : ((cc0_scratch2.slice (Rect.unit (s := S7) ![2] ![1] inb_S7_S1_2)).squeeze S_ squeezes_S1_S_).sem = recvS 2 := rfl
theorem recv_3 : ((cc0_scratch2.slice (Rect.unit (s := S7) ![3] ![1] inb_S7_S1_3)).squeeze S_ squeezes_S1_S_).sem = recvS 3 := rfl
theorem recv_4 : ((cc0_scratch2.slice (Rect.unit (s := S7) ![4] ![1] inb_S7_S1_4)).squeeze S_ squeezes_S1_S_).sem = recvS 4 := rfl
theorem recv_5 : ((cc0_scratch2.slice (Rect.unit (s := S7) ![5] ![1] inb_S7_S1_5)).squeeze S_ squeezes_S1_S_).sem = recvS 5 := rfl
theorem recv_6 : ((cc0_scratch2.slice (Rect.unit (s := S7) ![6] ![1] inb_S7_S1_6)).squeeze S_ squeezes_S1_S_).sem = recvS 6 := rfl

abbrev barCell (c : Dev nD) : GSem nD τ sig := ((c : Thread nD τ), .reg barS)
abbrev dCell (c : Dev nD) (q : DmaSem sig) : GSem nD τ sig := ((c : Thread nD τ), .dma q)
abbrev sendCell (c : Dev nD) (h : Fin 7) : GSem nD τ sig := dCell c (sendS h)
abbrev recvCell (c : Dev nD) (h : Fin 7) : GSem nD τ sig := dCell c (recvS h)

set_option backward.proofsInPublic true in
/-- The transfer a DMA semaphore belongs to. -/
def hOf (q : DmaSem sig) : Fin 7 := ⟨(q.val + 3) % 7, Nat.mod_lt _ (by decide)⟩
theorem hOf_send (h : Fin 7) : hOf (sendS h) = h := by revert h; decide
theorem hOf_recv (h : Fin 7) : hOf (recvS h) = h := by revert h; decide

/-! ## The values a device computes, from the raw arrays -/

/-- Each token's rank among the earlier tokens of its expert, as the kernel counts it in blocks of 256. -/
def rankv (i : Vec F S2048x1 .i32) : IVec S2048x1 32 :=
  k0_pay31 (k0_pay1 i) (k0_pay2 (F := F)) (k0_pay6 i)
    (k0_pay10 (k0_pay1 i) k0_pay2 k0_pay3 (k0_pay5 i)) (k0_pay14 (k0_pay1 i) k0_pay2 k0_pay3 (k0_pay5 i))
    (k0_pay18 (k0_pay1 i) k0_pay2 k0_pay3 (k0_pay5 i))
    (k0_pay22 (k0_pay1 i) k0_pay2 (k0_pay15 (k0_pay1 i) k0_pay3 (k0_pay5 i)) (k0_pay17 (k0_pay1 i)))
    (k0_pay26 (k0_pay1 i) k0_pay2 (k0_pay15 (k0_pay1 i) k0_pay3 (k0_pay5 i)) (k0_pay17 (k0_pay1 i)))
    (k0_pay27 (k0_pay1 i) (k0_pay15 (k0_pay1 i) k0_pay3 (k0_pay5 i)) (k0_pay17 (k0_pay1 i)))
    (k0_pay29 (k0_pay1 i))
    (k0_pay30 (k0_pay1 i) k0_pay2 (k0_pay15 (k0_pay1 i) k0_pay3 (k0_pay5 i)) (k0_pay17 (k0_pay1 i)))
/-- Whether each token is served. -/
def keepv (i : Vec F S2048x1 .i32) : IVec S2048x1 1 :=
  k0_pay32 (k0_pay1 i) (k0_pay2 (F := F)) (k0_pay6 i)
    (k0_pay10 (k0_pay1 i) k0_pay2 k0_pay3 (k0_pay5 i)) (k0_pay14 (k0_pay1 i) k0_pay2 k0_pay3 (k0_pay5 i))
    (k0_pay18 (k0_pay1 i) k0_pay2 k0_pay3 (k0_pay5 i))
    (k0_pay22 (k0_pay1 i) k0_pay2 (k0_pay15 (k0_pay1 i) k0_pay3 (k0_pay5 i)) (k0_pay17 (k0_pay1 i)))
    (k0_pay26 (k0_pay1 i) k0_pay2 (k0_pay15 (k0_pay1 i) k0_pay3 (k0_pay5 i)) (k0_pay17 (k0_pay1 i)))
    (k0_pay27 (k0_pay1 i) (k0_pay15 (k0_pay1 i) k0_pay3 (k0_pay5 i)) (k0_pay17 (k0_pay1 i)))
    (k0_pay29 (k0_pay1 i))
    (k0_pay30 (k0_pay1 i) k0_pay2 (k0_pay15 (k0_pay1 i) k0_pay3 (k0_pay5 i)) (k0_pay17 (k0_pay1 i)))
/-- The device's dispatched rows: 32 places per local expert. -/
def xdv (w : BitVec 32) (i : Vec F S2048x1 .i32) (x : Vec F S2048x512 .bf16) : FVec F S256x512 .bf16 :=
  k0_pay33 w (k0_pay1 i) (k0_pay2 (F := F)) (k0_pay6 i)
    (k0_pay10 (k0_pay1 i) k0_pay2 k0_pay3 (k0_pay5 i)) (k0_pay14 (k0_pay1 i) k0_pay2 k0_pay3 (k0_pay5 i))
    (k0_pay18 (k0_pay1 i) k0_pay2 k0_pay3 (k0_pay5 i))
    (k0_pay22 (k0_pay1 i) k0_pay2 (k0_pay15 (k0_pay1 i) k0_pay3 (k0_pay5 i)) (k0_pay17 (k0_pay1 i)))
    (k0_pay26 (k0_pay1 i) k0_pay2 (k0_pay15 (k0_pay1 i) k0_pay3 (k0_pay5 i)) (k0_pay17 (k0_pay1 i)))
    (k0_pay27 (k0_pay1 i) (k0_pay15 (k0_pay1 i) k0_pay3 (k0_pay5 i)) (k0_pay17 (k0_pay1 i)))
    (k0_pay29 (k0_pay1 i))
    (k0_pay30 (k0_pay1 i) k0_pay2 (k0_pay15 (k0_pay1 i) k0_pay3 (k0_pay5 i)) (k0_pay17 (k0_pay1 i))) x
/-- Its first 32 rows, taken apart by the kernel for expert 0. -/
def xd0v (w : BitVec 32) (i : Vec F S2048x1 .i32) (x : Vec F S2048x512 .bf16) : FVec F S32x512 .bf16 :=
  k0_pay34 w (k0_pay1 i) (k0_pay2 (F := F)) (k0_pay6 i)
    (k0_pay10 (k0_pay1 i) k0_pay2 k0_pay3 (k0_pay5 i)) (k0_pay14 (k0_pay1 i) k0_pay2 k0_pay3 (k0_pay5 i))
    (k0_pay18 (k0_pay1 i) k0_pay2 k0_pay3 (k0_pay5 i))
    (k0_pay22 (k0_pay1 i) k0_pay2 (k0_pay15 (k0_pay1 i) k0_pay3 (k0_pay5 i)) (k0_pay17 (k0_pay1 i)))
    (k0_pay26 (k0_pay1 i) k0_pay2 (k0_pay15 (k0_pay1 i) k0_pay3 (k0_pay5 i)) (k0_pay17 (k0_pay1 i)))
    (k0_pay27 (k0_pay1 i) (k0_pay15 (k0_pay1 i) k0_pay3 (k0_pay5 i)) (k0_pay17 (k0_pay1 i)))
    (k0_pay29 (k0_pay1 i))
    (k0_pay30 (k0_pay1 i) k0_pay2 (k0_pay15 (k0_pay1 i) k0_pay3 (k0_pay5 i)) (k0_pay17 (k0_pay1 i))) x

/-- The buffer of weights. -/
abbrev wM : Memref sig .tc .vmem S8x512x1024 .bf16 := Memref.whole cc0_stg2_0
theorem inb_exp (k : Fin 8) : ∀ a, (![k.val, 0, 0] : Fin 3 → ℕ) a + S1x512x1024.size a ≤ S8x512x1024.size a := by
  revert k; decide
/-- Local expert `k`'s weights, as the kernel loads them. -/
def wBlk (W : Vec F S8x512x1024 .bf16) (k : Fin 8) : Vec F S1x512x1024 .bf16 :=
  wM.view.readAt (Elt F) (Rect.unit (s := S8x512x1024) ![k.val, 0, 0] S1x512x1024.size (inb_exp k)).toLoadRect W

/-- The eight products a device stores, one per local expert. -/
def piece (w : BitVec 32) (i : Vec F S2048x1 .i32) (x : Vec F S2048x512 .bf16) (W : Vec F S8x512x1024 .bf16) : Fin 8 → FVec F S1x32x1024 .bf16
  | 0 => k0_pay35 (xd0v w i x) (wBlk W 0)
  | 1 => k0_pay36 (xdv w i x) (wBlk W 1)
  | 2 => k0_pay37 (xdv w i x) (wBlk W 2)
  | 3 => k0_pay38 (xdv w i x) (wBlk W 3)
  | 4 => k0_pay39 (xdv w i x) (wBlk W 4)
  | 5 => k0_pay40 (xdv w i x) (wBlk W 5)
  | 6 => k0_pay41 (xdv w i x) (wBlk W 6)
  | 7 => k0_pay43 (k0_pay42 (xdv w i x) (wBlk W 7))

/-- The device's number as the kernel computes it. -/
def word (c : Dev nD) : BitVec 32 := Scalar.remsi (Scalar.divsi (Dev.word c) 1#32) 8#32

/-! ## What the buffers hold -/

/-- Device `c`'s staged tokens, routing indices and weights. -/
def xstg (c : Dev nD) : (cc0_stg0_0 : Ref sig .tc).ty.Contents (Elt F) :=
  (win0_0.blk (0 : Fin 1)).view.read (Elt F) (m ((c : Thread nD τ).loc main_arg0))
/-- The device's expert numbers, staged. -/
def istg (c : Dev nD) : (cc0_stg1_0 : Ref sig .tc).ty.Contents (Elt F) :=
  (win0_1.blk (0 : Fin 1)).view.read (Elt F) (m ((c : Thread nD τ).loc main_arg2))
/-- The device's weights, staged. -/
def wstg (c : Dev nD) : (cc0_stg2_0 : Ref sig .tc).ty.Contents (Elt F) :=
  (win0_2.blk (0 : Fin 1)).view.read (Elt F) (m ((c : Thread nD τ).loc main_arg3))

/-- Device `d`'s products. -/
def pieceAt (d : Dev nD) (e : Fin 8) : FVec F S1x32x1024 .bf16 := piece (word d) (istg m d) (xstg m d) (wstg m d) e

set_option backward.proofsInPublic true in
/-- The place within one product of a place within a slot. -/
def within (i : S8x256x1024.Idx) : S1x32x1024.Idx := fun
  | 0 => ⟨0, by decide⟩
  | 1 => ⟨(i 1).val % 32, Nat.mod_lt _ (by decide)⟩
  | 2 => i 2
set_option backward.proofsInPublic true in
/-- The expert of a row of a slot. -/
def expOf (i : S8x256x1024.Idx) : Fin 8 := ⟨(i 1).val / 32, by have := (i 1).isLt; have h : S8x256x1024.size 1 = 256 := rfl; omega⟩

/-- The gather buffer of device `c` when every slot is filled: slot `s` holds the products of device `org c s`. -/
def commF (c : Dev nD) : (cc0_scratch0 : Ref sig .tc).ty.Contents (Elt F) :=
  fun i => pieceAt m (org c (i 0)) (expOf i) (within i)

/-- Slot `k` of device `c` at contents `f`, share `q`. -/
def slotPts (q : PosShare TreeShare) (c : Dev nD) (k : Fin 8) (f : (cc0_scratch0 : Ref sig .tc).ty.Contents (Elt F)) : sProp 𝕄 :=
  ((c : Thread nD τ).loc cc0_scratch0) ↦[slotSet k]{q} f

omit [FloatOps F] in
instance slotPts_storable (q) (c : Dev nD) (k) (f) : BI.Storable (upEmb : UEmb _ 𝕄) (slotPts (F := F) q c k f) := by unfold slotPts; infer_instance

omit [FloatOps F] in
theorem slotPts_eq (q) (c : Dev nD) (k : Fin 8) (f : (cc0_scratch0 : Ref sig .tc).ty.Contents (Elt F)) :
    slotPts q c k f = (((c : Thread nD τ).loc cc0_scratch0) ↦[slotSet k]{q} f : sProp 𝕄) := rfl

omit [FloatOps F] in
/-- The same over the view a transfer names. -/
theorem slotPts_view (q) (c : Dev nD) (k : Fin 8) (f : Buf (Elt F) ((slotM k).view.loc (c : Thread nD τ))) :
    slotPts q c k f = ((slotM k).view.loc (c : Thread nD τ) ↦[(slotM k).view.set]{q} f : sProp 𝕄) := by
  rw [slot_set]; rfl

omit [FloatOps F] in
theorem slotPts_congr (q) (c : Dev nD) (k : Fin 8) {f g : (cc0_scratch0 : Ref sig .tc).ty.Contents (Elt F)}
    (h : ∀ i ∈ slotSet k, f i = g i) : slotPts (F := F) q c k f = slotPts q c k g := by
  rw [slotPts_eq, slotPts_eq]; exact pointsTo_congr h

/-- The place in the gather buffer of a place in slot `k`. -/
def slotIx (k : Fin 8) (x : S256x1024.Idx) : S8x256x1024.Idx := (slotM k).view.emb x

theorem slotIx_mem (k : Fin 8) (x : S256x1024.Idx) : slotIx k x ∈ slotSet k :=
  (congrArg (fun S => slotIx k x ∈ S) (slot_set k)).mp (View.emb_mem_set (slotM k).view x)

theorem slotIx_one (a b : Fin 8) (x : S256x1024.Idx) : slotIx a x 1 = slotIx b x 1 := rfl
theorem slotIx_two (a b : Fin 8) (x : S256x1024.Idx) : slotIx a x 2 = slotIx b x 2 := rfl

/-- The full buffer's contents at a place of slot `k`: they depend on the slot only through its device. -/
theorem commF_slot (c c' : Dev nD) (a b : Fin 8) (ho : org c' b = org c a) (x : S256x1024.Idx) :
    commF m c (slotIx a x) = commF m c' (slotIx b x) := by
  have ha : slotIx a x 0 = a := Fin.ext (mem_slotSet.mp (slotIx_mem a x))
  have hb : slotIx b x 0 = b := Fin.ext (mem_slotSet.mp (slotIx_mem b x))
  unfold commF
  rw [ha, hb, ho]
  have hw : within (slotIx a x) = within (slotIx b x) := by
    funext j
    match j with
    | 0 => rfl
    | 1 => rfl
    | 2 => rfl
  have he : expOf (slotIx a x) = expOf (slotIx b x) := rfl
  rw [hw, he]

/-- What a transfer from slot `a` writes into slot `b` is what belongs there. -/
theorem landed (c c' : Dev nD) (a b : Fin 8) (ho : org c' b = org c a) (fd : (cc0_scratch0 : Ref sig .tc).ty.Contents (Elt F)) :
    ∀ i ∈ (slotM b).view.set, (slotM b).view.write (Elt F) fd ((slotM a).view.read (Elt F) (commF m c)) Finset.univ i = commF m c' i := by
  intro i hi
  obtain ⟨x, -, hx⟩ := Finset.mem_map.mp hi
  subst hx
  refine (View.write_emb_of_mem (v := (slotM b).view) (f := fd) _ (Finset.mem_univ x)).trans ?_
  exact commF_slot m c c' a b ho x

/-! ## The eight stores that fill slot 0 -/

theorem inb_piece (e : Fin 8) : ∀ a, (![0, 32 * e.val, 0] : Fin 3 → ℕ) a + S1x32x1024.size a ≤ S8x256x1024.size a := by
  revert e; decide
abbrev pR (e : Fin 8) : Rect S8x256x1024 := Rect.unit (s := S8x256x1024) ![0, 32 * e.val, 0] S1x32x1024.size (inb_piece e)
/-- The gather buffer after product `e` is stored. -/
def put (e : Fin 8) (f : (cc0_scratch0 : Ref sig .tc).ty.Contents (Elt F)) (w : FVec F S1x32x1024 .bf16) :
    (cc0_scratch0 : Ref sig .tc).ty.Contents (Elt F) :=
  (cM.access (pR e) : View sig .tc _ _ _).write (Elt F) f w Finset.univ

theorem piece_mem {e : Fin 8} {i : S8x256x1024.Idx} : i ∈ (pR e).set ↔ (i 0).val = 0 ∧ (i 1).val / 32 = e.val := by
  rw [Rect.mem_set_unit]
  have h2 : (i 2).val < 1024 := (i 2).isLt
  have h0' : (i 0).val < 8 := (i 0).isLt
  constructor
  · intro h
    have h0 : 0 ≤ (i 0).val ∧ (i 0).val < 0 + 1 := h 0
    have h1 : 32 * e.val ≤ (i 1).val ∧ (i 1).val < 32 * e.val + 32 := h 1
    omega
  · intro h a
    fin_cases a
    · show 0 ≤ (i 0).val ∧ (i 0).val < 0 + 1; omega
    · show 32 * e.val ≤ (i 1).val ∧ (i 1).val < 32 * e.val + 32; omega
    · show 0 ≤ (i 2).val ∧ (i 2).val < 0 + 1024; omega

omit [FloatOps F] in
theorem piece_emb (e : Fin 8) (x : S1x32x1024.Idx) :
    (((cM.access (pR e) : View sig .tc _ _ _).emb x : S8x256x1024.Idx) 1).val = 32 * e.val + (x 1).val
      ∧ (((cM.access (pR e) : View sig .tc _ _ _).emb x : S8x256x1024.Idx) 2).val = (x 2).val :=
  ⟨by show 32 * e.val + 1 * (x 1).val = _; omega, by show 0 + 1 * (x 2).val = _; omega⟩

omit [FloatOps F] in
/-- A store of a piece, read at an index. -/
theorem put_apply (e : Fin 8) (f : (cc0_scratch0 : Ref sig .tc).ty.Contents (Elt F)) (w : FVec F S1x32x1024 .bf16) (i : S8x256x1024.Idx) :
    put e f w i = if (i 0).val = 0 ∧ (i 1).val / 32 = e.val then w (within i) else f i := by
  unfold put
  split
  · rename_i h
    have hi : i ∈ (cM.access (pR e) : View sig .tc _ _ _).set := by
      show i ∈ ((View.whole cc0_scratch0).slice (pR e)).set
      rw [View.set_slice_whole]; exact piece_mem.mpr h
    obtain ⟨x, -, hx⟩ := Finset.mem_map.mp hi
    rw [← hx, View.write_emb_of_mem _ _ (Finset.mem_univ x)]
    show w x = w (within ((cM.access (pR e) : View sig .tc _ _ _).emb x))
    obtain ⟨h1, h2⟩ := piece_emb e x
    have hx1 : (x 1).val < 32 := (x 1).isLt
    have hx0 : (x 0).val < 1 := (x 0).isLt
    congr 1
    funext j
    match j with
    | 0 => exact Fin.ext (by show (x 0).val = 0; omega)
    | 1 => exact Fin.ext (by show (x 1).val = (((cM.access (pR e) : View sig .tc _ _ _).emb x : S8x256x1024.Idx) 1).val % 32; omega)
    | 2 => exact Fin.ext h2.symm
  · rename_i h
    refine View.write_of_not_mem _ _ _ ?_
    intro hi
    have hi' : i ∈ ((View.whole cc0_scratch0).slice (pR e)).set := hi
    rw [View.set_slice_whole] at hi'
    exact h (piece_mem.mp hi')

/-- After the eight stores slot 0 holds the device's own products. -/
theorem filled (c : Dev nD) (f : (cc0_scratch0 : Ref sig .tc).ty.Contents (Elt F)) :
    ∀ i ∈ slotSet 0, put 7 (put 6 (put 5 (put 4 (put 3 (put 2 (put 1 (put 0 f (pieceAt m c 0)) (pieceAt m c 1)) (pieceAt m c 2)) (pieceAt m c 3))
      (pieceAt m c 4)) (pieceAt m c 5)) (pieceAt m c 6)) (pieceAt m c 7) i = commF m c i := by
  intro i hi
  have h0 : (i 0).val = 0 := mem_slotSet.mp hi
  have h1 : (i 1).val < 256 := (i 1).isLt
  have ho : org c (i 0) = c := by rw [show i 0 = (0 : Fin 8) from Fin.ext h0]; exact org_zero c
  unfold commF
  rw [ho]
  have key : ∀ e : Fin 8, (i 1).val / 32 = e.val → expOf i = e := fun e he => Fin.ext he
  simp only [put_apply, h0, true_and]
  have : (i 1).val / 32 < 8 := by omega
  split; · rename_i h; rw [key 7 h]
  split; · rename_i h; rw [key 6 h]
  split; · rename_i h; rw [key 5 h]
  split; · rename_i h; rw [key 4 h]
  split; · rename_i h; rw [key 3 h]
  split; · rename_i h; rw [key 2 h]
  split; · rename_i h; rw [key 1 h]
  split; · rename_i h; rw [key 0 h]
  rename_i g7 g6 g5 g4 g3 g2 g1 g0
  exfalso
  have e : ∀ k : Fin 8, ¬ (i 1).val / 32 = k.val := by
    intro k; fin_cases k <;> assumption
  exact e ⟨(i 1).val / 32, this⟩ rfl

/-- The block of slot `k` as a load reads it. -/
def slotBlk (c : Dev nD) (k : Fin 8) : Vec F S1x256x1024 .bf16 :=
  cM.view.readAt (Elt F) (slotR k).toLoadRect (commF m c)

omit [FloatOps F] in
theorem slot_access (k : Fin 8) : cM.view.setOn (slotR k).toLoadRect.set ⊆ slotSet k := by
  have h : cM.view.setOn (slotR k).toLoadRect.set = ((View.whole cc0_scratch0).slice (slotR k)).set := by
    rw [View.set_slice]; rfl
  rw [h, ← slot_set]
  unfold slotM
  rw [Memref.set_view_squeeze]

omit [FloatOps F] in
theorem piece_access (e : Fin 8) : (cM.access (pR e) : View sig .tc _ _ _).setOn Finset.univ ⊆ slotSet 0 := by
  intro i hi
  have hi' : i ∈ ((View.whole cc0_scratch0).slice (pR e)).set := hi
  rw [View.set_slice_whole] at hi'
  exact mem_slotSet.mpr (piece_mem.mp hi').1

omit [FloatOps F] in
theorem piece_load (e : Fin 8) : cM.view.setOn (pR e).toLoadRect.set ⊆ slotSet 0 := by
  have h : cM.view.setOn (pR e).toLoadRect.set = (cM.access (pR e) : View sig .tc _ _ _).set := by
    show _ = ((View.whole cc0_scratch0).slice (pR e)).set
    rw [View.set_slice]; rfl
  rw [h]; exact piece_access e

end Cert.Moe

end
-- ==== Proof.Sched.lean ====
/- The schedule of the kernel's cells: one round each. The barrier cell's two duties hand over the slots the two
   neighbours will fill; a receive cell's duty brings the filled slot with its contents; a send cell's duty returns
   the share of the slot lent to the transfer. -/
module

public import proofs.«01_k».proof.Proof.Common

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The share of its source slot a transfer borrows: slot 0 is read by two transfers and the device at once. -/
def lent (h : Fin 7) : PosShare TreeShare := if h.val = 4 then fullShare.right.left else fullShare.left

/-- Slots 1 to 4 of device `d`, at any contents: what the right-going transfers into `d` need. -/
def barPayT (d : Dev nD) : sProp 𝕄 :=
  iprop((∃ f, slotPts fullShare d 1 f) ∗ (∃ f, slotPts fullShare d 2 f) ∗ (∃ f, slotPts fullShare d 3 f) ∗ ∃ f, slotPts fullShare d 4 f)
/-- Slots 5 to 7 of device `d`: what the left-going ones need. -/
def barPayF (d : Dev nD) : sProp 𝕄 :=
  iprop((∃ f, slotPts fullShare d 5 f) ∗ (∃ f, slotPts fullShare d 6 f) ∗ ∃ f, slotPts fullShare d 7 f)

/-- A DMA cell's payload. -/
def dmaPay (c : Dev nD) (q : DmaSem sig) : sProp 𝕄 :=
  if 11 ≤ q.val then slotPts fullShare c (dst (hOf q)) (commF m c) else slotPts (lent (hOf q)) c (src (hOf q)) (commF m c)

abbrev IsBar (g : GSem nD τ sig) : Prop := g.1.2 = .tc ∧ g.2 = .reg barS
/-- One of the kernel's fourteen DMA semaphores. -/
def IsXferSem : SemLoc sig → Prop
  | .dma q => 4 ≤ q.val
  | .reg _ => False
instance : DecidablePred IsXferSem := fun
  | .dma q => inferInstanceAs (Decidable (4 ≤ q.val))
  | .reg _ => inferInstanceAs (Decidable False)
abbrev IsXfer (g : GSem nD τ sig) : Prop := g.1.2 = .tc ∧ IsXferSem g.2

/-- The cells' schedule. -/
def rd : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d := match g.2 with
    | .reg _ => if d then barPayT (nxt g.1.1) else barPayF (prv g.1.1)
    | .dma q => dmaPay m g.1.1 q
  amount_pos g _ _ _ := by
    by_cases h : g.2 = .reg barS
    · rw [if_pos h]; exact Nat.one_pos
    · rw [if_neg h]; exact N_pos

instance rd_payload_storable (g : GSem nD τ sig) (r : ℕ) (d : Bool) :
    BI.Storable (upEmb : UEmb _ 𝕄) ((rd (F := F) m).payload g r d) := by
  obtain ⟨t, sm⟩ := g
  cases sm with
  | reg s =>
    show BI.Storable upEmb (if d then barPayT (F := F) (nxt t.1) else barPayF (prv t.1))
    unfold barPayT barPayF
    split <;> infer_instance
  | dma q =>
    show BI.Storable upEmb (dmaPay m t.1 q)
    unfold dmaPay
    split
    · exact slotPts_storable ..
    · exact slotPts_storable ..

section Sched
variable (c : Dev nD)

omit [FloatOps F] in
theorem xferSend (h : Fin 7) : IsXferSem (.dma (sendS h)) := Nat.le_add_right _ _
omit [FloatOps F] in
theorem xferRecv (h : Fin 7) : IsXferSem (.dma (recvS h)) := by show 4 ≤ 11 + h.val; omega

theorem duties_bar : (rd (F := F) m).duties (barCell c) 0 = Finset.univ := by dsimp only [rd]; exact if_pos ⟨rfl, rfl, rfl⟩
theorem duties_dma (q : DmaSem sig) (hq : IsXferSem (.dma q)) : (rd (F := F) m).duties (dCell c q) 0 = {false} := by
  dsimp only [rd]; rw [if_neg (fun h => by cases h.2.2)]
  exact if_pos ⟨rfl, rfl, hq⟩
theorem duties_later (g : GSem nD τ sig) : ∀ r, 1 ≤ r → (rd (F := F) m).duties g r = ∅ :=
  fun r hr => by dsimp only [rd]; rw [if_neg fun h => by omega, if_neg fun h => by omega]
theorem amount_bar (d : Bool) : (rd (F := F) m).amount (barCell c) 0 d = 1 := by dsimp only [rd]; exact if_pos rfl
theorem amount_dma (q : DmaSem sig) (d : Bool) : (rd (F := F) m).amount (dCell c q) 0 d = N := by
  dsimp only [rd]; exact if_neg (fun h => by cases h)
theorem expect_bar : (rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_dma (q : DmaSem sig) (hq : IsXferSem (.dma q)) : (rd (F := F) m).expect (dCell c q) 0 = N := by
  unfold Schedule.expect Schedule.amountOf; rw [duties_dma m c q hq, Finset.sum_singleton, amount_dma]

theorem payload_bar_true : (rd (F := F) m).payload (barCell c) 0 true = barPayT (nxt c) := rfl
theorem payload_bar_false : (rd (F := F) m).payload (barCell c) 0 false = barPayF (prv c) := rfl
theorem payload_send (h : Fin 7) (d : Bool) : (rd (F := F) m).payload (sendCell c h) 0 d = slotPts (lent h) c (src h) (commF m c) := by
  show dmaPay m c (sendS h) = _
  unfold dmaPay
  rw [if_neg (by show ¬ 11 ≤ 4 + h.val; omega), hOf_send]
theorem payload_recv (h : Fin 7) (d : Bool) : (rd (F := F) m).payload (recvCell c h) 0 d = slotPts fullShare c (dst h) (commF m c) := by
  show dmaPay m c (recvS h) = _
  unfold dmaPay
  rw [if_pos (by show 11 ≤ 11 + h.val; omega), hOf_recv]

theorem rest_bar : bigSep ((rd (F := F) m).duties (barCell c) 0 \ ∅) (fun d => (rd (F := F) m).payload (barCell c) 0 d) = iprop(barPayF (prv c) ∗ barPayT (nxt c)) := by
  rw [Finset.sdiff_empty, duties_bar, bigSep_univ_eq_bigSepL [false, true] (by decide) (by decide), bigSepL_cons_cons, bigSepL_singleton,
    payload_bar_false, payload_bar_true]
  rfl
theorem rest_dma (q : DmaSem sig) (hq : IsXferSem (.dma q)) :
    bigSep ((rd (F := F) m).duties (dCell c q) 0 \ ∅) (fun d => (rd (F := F) m).payload (dCell c q) 0 d) = (rd (F := F) m).payload (dCell c q) 0 false := by
  rw [Finset.sdiff_empty, duties_dma m c q hq, bigSep_singleton]

end Sched

/-! ## What each device owes at launch -/

/-- The credits of the transfers still to be started, the next one last in the sum. -/
def owedX (c : Dev nD) : List (Fin 7) → CellTallies nD τ sig Unit
  | [] => 0
  | h :: l => owedX c l + tallyAt (recvCell (tgt c h) h) () N
/-- The transfers in program order. -/
abbrev order : List (Fin 7) := [0, 4, 1, 5, 2, 6, 3]
def O₁ (c : Dev nD) : CellTallies nD τ sig Unit := owedX c order + tallyAt (barCell (nxt c)) () 1
/-- At launch a device owes its seven transfers' credits and a unit to each neighbour's barrier. -/
def O₀ (c : Dev nD) : CellTallies nD τ sig Unit := O₁ c + tallyAt (barCell (prv c)) () 1

def L (g : GSem nD τ sig) : Finset Unit := if g.1.2 = .tc then {()} else ∅
/-- The order of the waits: the barrier, then the receives by ring distance; sends and staging below all. -/
def lvS : SemLoc sig → ℕ
  | .reg _ => 1
  | .dma q => if 11 ≤ q.val then (if q.val < 15 then q.val - 9 else q.val - 13) else 0
/-- The level of a cell. -/
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem owedX_pos {c : Dev nD} {l : List (Fin 7)} {g : GSem nD τ sig} {u : Unit} (h : 0 < owedX c l g u) :
    ∃ k ∈ l, g = recvCell (tgt c k) k := by
  induction l with
  | nil => exact absurd h (Nat.lt_irrefl 0)
  | cons a l ih =>
    unfold owedX at h
    rw [Pi.add_apply, Finsupp.add_apply, tallyAt_apply] at h
    by_cases hc : g = recvCell (tgt c a) a
    · exact ⟨a, List.mem_cons_self, hc⟩
    · rw [if_neg (fun h' => hc h'.1)] at h
      obtain ⟨k, hk, e⟩ := ih h
      exact ⟨k, List.mem_cons_of_mem _ hk, e⟩

theorem O₀_pos {c : Dev nD} {g : GSem nD τ sig} {u : Unit} (h : 0 < O₀ c g u) :
    (∃ k : Fin 7, g = recvCell (tgt c k) k) ∨ g = barCell (nxt c) ∨ g = barCell (prv c) := by
  unfold O₀ O₁ at h
  rw [Pi.add_apply, Finsupp.add_apply, Pi.add_apply, Finsupp.add_apply, tallyAt_apply, tallyAt_apply] at h
  by_contra hn; rw [not_or, not_or] at hn
  obtain ⟨h1, h2, h3⟩ := hn
  rw [if_neg (fun h' => h2 h'.1), if_neg (fun h' => h3 h'.1)] at h
  obtain ⟨k, -, e⟩ := owedX_pos (l := order) (by simpa using h)
  exact h1 ⟨k, e⟩

/-- A wait below every receive still owed is allowed. -/
theorem mayWait_x (c : Dev nD) (sm : SemLoc sig) (l : List (Fin 7)) (hl : ∀ k ∈ l, lvS sm < lvS (.dma (recvS k))) :
    (levAts L lv : sProp 𝕄) ⊢ MayWait (c : Thread nD τ) sm () (owedX c l) :=
  MayOwe.of_cut (L := L) (lev := lv) (lvS sm) (fun p hp => by rw [Finset.mem_singleton.mp hp, L_tc]; exact Finset.mem_singleton_self _)
    (fun g u hg => by obtain ⟨k, -, rfl⟩ := owedX_pos hg; exact Finset.mem_singleton_self _)
    (fun p hp => by rw [Finset.mem_singleton.mp hp]; exact le_refl _)
    (fun g u hg => by obtain ⟨k, hk, rfl⟩ := owedX_pos hg; exact hl k hk)

theorem lvS_recv_pos (k : Fin 7) : 0 < lvS (.dma (recvS k)) := by revert k; decide

theorem mayWait_stage (c : Dev nD) (q : DmaSem sig) (hq : lvS (.dma q) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | rfl | rfl <;> exact Finset.mem_singleton_self _)
      (fun p hp => by rw [Finset.mem_singleton.mp hp]; exact le_of_eq hq)
      (fun g u hg => by
        rcases O₀_pos hg with ⟨k, rfl⟩ | rfl | rfl
        · show 0 < lvS (.dma (recvS k)); exact lvS_recv_pos k
        · exact Nat.one_pos
        · exact Nat.one_pos)
  · rw [MayWait_zero]; iintro -; iempintro

/-! ## Records, and the body's rules -/

set_option backward.proofsInPublic true in
/-- The kernel's `i`-th DMA semaphore. -/
abbrev xS (i : Fin 14) : DmaSem sig := ⟨4 + i.val, by have := i.isLt; show 4 + i.val < 18; omega⟩
/-- The fifteen cells of a device: the barrier, then the DMA semaphores 4 to 17. -/
def csem : Fin 15 → SemLoc sig := fun k => if h : k.val = 0 then .reg barS else .dma (xS ⟨k.val - 1, by have := k.isLt; omega⟩)
abbrev kcell (ck : Dev nD × Fin 15) : GSem nD τ sig := ((ck.1 : Thread nD τ), csem ck.2)

/-- The records of the ring. -/
def records (K : Dev nD × Fin 15 → ℕ) : sProp 𝕄 :=
  iprop((bigSep Finset.univ fun ck : Dev nD × Fin 15 => cellInv ER (rd m) (K ck) (kcell ck))
    ∗ bigSep Finset.univ fun ck : Dev nD × Fin 15 => reached ER (kcell ck) 0)
instance records_persistent (K : Dev nD × Fin 15 → ℕ) : BI.Persistent (records m K) := by unfold records; infer_instance

set_option backward.proofsInPublic true in
abbrev kS (h : Fin 7) : Fin 15 := ⟨1 + h.val, by omega⟩
set_option backward.proofsInPublic true in
abbrev kV (h : Fin 7) : Fin 15 := ⟨8 + h.val, by omega⟩
theorem kcell_bar (c : Dev nD) : kcell (c, 0) = barCell c := rfl
theorem csem_kS (h : Fin 7) : csem (kS h) = .dma (sendS h) := by revert h; decide
theorem csem_kV (h : Fin 7) : csem (kV h) = .dma (recvS h) := by revert h; decide
theorem kcell_send (c : Dev nD) (h : Fin 7) : kcell (c, kS h) = sendCell c h := by unfold kcell; rw [csem_kS]
theorem kcell_recv (c : Dev nD) (h : Fin 7) : kcell (c, kV h) = recvCell c h := by unfold kcell; rw [csem_kV]

theorem rec_inv (K : Dev nD × Fin 15 → ℕ) (ck : Dev nD × Fin 15) : records m K ⊢ cellInv ER (rd m) (K ck) (kcell ck) := by
  unfold records
  exact sep_elim_left.trans (bigSep_elim (Finset.mem_univ ck))
theorem rec_reached (K : Dev nD × Fin 15 → ℕ) (ck : Dev nD × Fin 15) : records (F := F) m K ⊢ reached ER (kcell ck) 0 := by
  unfold records
  exact sep_elim_right.trans (bigSep_elim (Finset.mem_univ ck))

end Cert.Moe

end
-- ==== Proof.Rules.lean ====
/- The rules of the kernel's effects at their resources: the two signals' and the wait's payloads, a transfer, a wait
   on a DMA cell (which closes it), and the loads and stores at a slot, the weights and the result. -/
module

public import proofs.«01_k».proof.Proof.Sched

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- A kernel step's weakest precondition on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, having waited on whatever it has. -/
def owesE (c : Dev nD) (O : CellTallies nD τ sig Unit) : sProp 𝕄 := iprop(∃ W : Waits sig Unit, owes (c : Thread nD τ) O W)

/-- The right to start transfer `h`, and the position at its send cell. -/
def sendTok (c : Dev nD) (h : Fin 7) : sProp 𝕄 :=
  iprop(dutyTok ER (sendCell c h) 0 false ∗ dutyTok ER (recvCell (tgt c h) h) 0 false ∗ atPos ER (sendCell c h) 0 ∅ 0)
/-- The right to wait once on DMA cell `q`. -/
def waitTok (c : Dev nD) (q : DmaSem sig) : sProp 𝕄 := iprop(cred (tallyAt (dCell c q) () N) ∗ atPos ER (dCell c q) 0 ∅ 0)

/-- A finished program's postcondition. -/
theorem wp_done (c : Dev nD) {α : Type} {Q : α → sProp 𝕄} (a : α) : Q a ⊢ WP c (.ret a) Q := by
  unfold WP; rw [wp_ret]; iintro H; imodintro; iexact H

omit [FloatOps F] in
/-- A share of a slot in halves, and back. -/
theorem slot_halves (q : PosShare TreeShare) (c : Dev nD) (k : Fin 8) (f : (cc0_scratch0 : Ref sig .tc).ty.Contents (Elt F)) :
    (slotPts q c k f : sProp 𝕄) ⊣⊢ iprop(slotPts q.left c k f ∗ slotPts q.right c k f) := by
  unfold slotPts; exact pointsTo_share (PosShare.mem_left_op_right q)

section Rules
variable (K : Dev nD × Fin 15 → ℕ) (c : Dev nD)

/-- A transfer: the lent share of the filled source slot, and the target's slot at any contents. -/
theorem wp_send (h : Fin 7) (n : Dev nD) (hn : n = tgt c h) (a b : Fin 8) (ha : a = src h) (hb : b = dst h) (l : List (Fin 7))
    {hsc : (slotM b : Memref sig (Dev.tc n : Thread nD τ).2.kind .vmem S256x1024 .bf16).view.ref.isScScratch = false}
    {hsrc : (slotM a).view.WordExact} {hdst : (slotM b).view.WordExact}
    {hsem : DmaTarget.Typed .vmem (.dma (recvS h)) (.remote (Dev.tc n : Thread nD τ) (slotM b) (.dma (sendS h)) hsc)}
    {α : Type} {Q : α → sProp 𝕄} {k : PUnit → Prog (TpuEff nD τ sig (Elt F) Λ₀ .tc) α} :
    iprop(records m K ∗ slotPts (lent h) c a (commF m c) ∗ (∃ f, slotPts fullShare (tgt c h) b f) ∗ owesE c (owedX c (h :: l)) ∗ sendTok c h)
      ⊢ iprop(((waitTok c (sendS h) ∗ owesE c (owedX c l)) -∗ WP c (k ⟨⟩) Q)
          -∗ WP c (.op (.enqueueDma (slotM a) (.remote (Dev.tc n : Thread nD τ) (slotM b) (.dma (sendS h)) hsc) (.dma (recvS h)) hsrc hdst hsem) k) Q) := by
  subst hn ha hb
  iintro ⟨#HR, Hs, ⟨%f, Hd⟩, HO, HT⟩ Hk
  ihave #HI := (rec_inv m K (c, kS h)) $$ HR
  ihave #HI' := (rec_inv m K (tgt c h, kV h)) $$ HR
  ihave #Hr := (rec_reached m K (c, kS h)) $$ HR
  ihave #Hr' := (rec_reached m K (tgt c h, kV h)) $$ HR
  rw [kcell_send, kcell_recv]
  unfold owesE sendTok waitTok
  icases HO with ⟨%W, HO⟩
  icases HT with ⟨HT, HT', Hat⟩
  have hcr := credit_slot (dst h)
  iapply (Rounds.wp_send_pointsTo 𝒱₀ ER (rd m) (c : Thread nD τ) none (κ₁ := K (c, kS h)) (κ₂ := K (tgt c h, kV h))
    (r₁ := 0) (r₂ := 0) (d₁ := false) (d₂ := false) (fd := f)
    (by rw [duties_dma m c _ (xferSend h)]; exact Finset.mem_singleton_self _) (by rw [duties_dma m _ _ (xferRecv h)]; exact Finset.mem_singleton_self _)
    () () N (by exact hcr) (amount_dma m c (sendS h) false) (amount_dma m (tgt c h) (recvS h) false) (owedX c l) rfl (W := W)
    (by rw [payload_send]; exact Entails.of_eq (slotPts_view ..).symm)
    (by
      rw [payload_recv]
      refine Entails.of_eq ?_
      refine Eq.trans ?_ (slotPts_view ..).symm
      exact pointsTo_congr (landed m c (tgt c h) (src h) (dst h) (org_step c h) f))) $$ [Hs Hd HO HT HT']
  · isplitr; · iexact HI
    isplitr; · iexact HI'
    isplitl [Hs]; · iapply (Entails.of_eq (slotPts_view ..)); iexact Hs
    isplitl [Hd]; · iapply (Entails.of_eq (slotPts_view ..)); iexact Hd
    isplitl [HO]; · iexact HO
    isplitl [HT]; · iexact HT
    isplitr; · iexact Hr
    isplitl [HT']; · iexact HT'
    iexact Hr'
  iintro ⟨Hc, HO⟩
  iapply Hk
  isplitl [Hc Hat]; · isplitl [Hc] <;> iassumption
  iexists W; iexact HO

/-- A wait on a DMA cell whose only duty has been paid: its payload comes, and the cell closes at zero. -/
theorem wp_waitq (q : DmaSem sig) (hq : IsXferSem (.dma q)) (ck : Dev nD × Fin 15) (hck : kcell ck = dCell c q) (l : List (Fin 7))
    (hl : ∀ k ∈ l, lvS (.dma q) < lvS (.dma (recvS k)))
    {src dst : Memref sig .tc .vmem S256x1024 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(records m K ∗ levAts L lv ∗ owesE c (owedX c l) ∗ waitTok c q)
      ⊢ iprop(((owesE c (owedX c l) ∗ semVal (dCell c q) 0 ∗ (rd (F := F) m).payload (dCell c q) 0 false) -∗ WP c (k ⟨⟩) Q)
          -∗ WP c (.op (.waitDma2 q src dst hsrc hdst) k) Q) := by
  iintro ⟨#HR, #Hlev, HO, HT⟩ Hk
  ihave #HI := (rec_inv m K ck) $$ HR
  rw [hck]
  unfold owesE waitTok
  icases HO with ⟨%W, HO⟩
  icases HT with ⟨Hc, Hat⟩
  iapply (Rounds.wp_wait_rest_token 𝒱₀ ER (rd m) (c : Thread nD τ) none (κ := K ck)
      (wpE_waitDma2_eq 𝒱₀ (c : Thread nD τ) none Set.univ) (Set.mem_univ _) () (O := owedX c l) (W := W) (R := 0) (m := 0) (T := ∅)
      (by rw [Nat.zero_add, hN, expect_dma m c q hq])) $$ [Hc HO Hat]
  · isplitr; · iexact HI
    isplitl [Hc]; · rw [hN]; iexact Hc
    isplitl [HO]; · iexact HO
    isplitr; · iapply (mayWait_x c (.dma q) l hl); iexact Hlev
    iexact Hat
  iintro ⟨HO, Hat, -, Hpay⟩
  imod (Rounds.cell_close ER (rd m) (Set.mem_univ (K ck)) (fun h => h) (R := 0 + 1) (duties_later m (dCell c q))) $$ [Hat] with Hz
  · isplitr; · iexact HI
    iexact Hat
  iapply Hk
  isplitl [HO]; · iexists _; iexact HO
  isplitl [Hz]; · iexact Hz
  iapply (Entails.of_eq (rest_dma m c q hq)); iexact Hpay

/-- A receive wait: the slot comes filled. -/
theorem wp_wait_recv (h : Fin 7) (l : List (Fin 7)) (hl : ∀ k ∈ l, lvS (.dma (recvS h)) < lvS (.dma (recvS k)))
    (a b : Fin 8) (hb : b = dst h)
    {hsrc : (slotM a).view.WordExact} {hdst : (slotM b).view.WordExact}
    {α : Type} {Q : α → sProp 𝕄} {k : PUnit → Prog (TpuEff nD τ sig (Elt F) Λ₀ .tc) α} :
    iprop(records m K ∗ levAts L lv ∗ owesE c (owedX c l) ∗ waitTok c (recvS h))
      ⊢ iprop(((owesE c (owedX c l) ∗ semVal (recvCell c h) 0 ∗ slotPts fullShare c b (commF m c)) -∗ WP c (k ⟨⟩) Q)
          -∗ WP c (.op (.waitDma2 (recvS h) (slotM a) (slotM b) hsrc hdst) k) Q) := by
  subst hb
  have e := wp_waitq (F := F) m K c (recvS h) (xferRecv h) (c, kV h) (kcell_recv c h) l hl (hsrc := hsrc) (hdst := hdst) (credit_slot (dst h)) (Q := Q) (k := k)
  rw [payload_recv] at e
  exact e

/-- A send wait: the lent share returns. -/
theorem wp_wait_send (h : Fin 7) (a b : Fin 8) (s : Fin 8) (hs : s = src h)
    {hsrc : (slotM a).view.WordExact} {hdst : (slotM b).view.WordExact}
    {α : Type} {Q : α → sProp 𝕄} {k : PUnit → Prog (TpuEff nD τ sig (Elt F) Λ₀ .tc) α} :
    iprop(records m K ∗ levAts L lv ∗ owesE c (owedX c []) ∗ waitTok c (sendS h))
      ⊢ iprop(((owesE c (owedX c []) ∗ semVal (sendCell c h) 0 ∗ slotPts (lent h) c s (commF m c)) -∗ WP c (k ⟨⟩) Q)
          -∗ WP c (.op (.waitDma2 (sendS h) (slotM a) (slotM b) hsrc hdst) k) Q) := by
  subst hs
  have e := wp_waitq (F := F) m K c (sendS h) (xferSend h) (c, kS h) (kcell_send c h) [] (fun k hk => absurd hk List.not_mem_nil) (hsrc := hsrc) (hdst := hdst) (credit_slot b) (Q := Q) (k := k)
  rw [payload_send] at e
  exact e

/-- A load of a slot reads its block. -/
theorem wp_load_slot (q : PosShare TreeShare) (s : Fin 8)
    {hl : View.LoadsAt cM.view (slotR s).toLoadRect}
    {α : Type} {Q : α → sProp 𝕄} {k : Vec F S1x256x1024 .bf16 → Prog (TpuEff nD τ sig (Elt F) Λ₀ .tc) α} :
    slotPts q c s (commF m c) ⊢ iprop((slotPts q c s (commF m c) -∗ WP c (k (slotBlk m c s)) Q)
      -∗ WP c (.op (.load cM (slotR s).toLoadRect hl) k) Q) := by
  rw [slotPts_eq]
  exact wp_load 𝒱₀ (c : Thread nD τ) none Set.univ (m := cM) (slot_access s)

/-- The kernel's unused load of the place a product is about to be stored. -/
theorem wp_load_piece (e : Fin 8) (f : (cc0_scratch0 : Ref sig .tc).ty.Contents (Elt F))
    {hl : View.LoadsAt cM.view (pR e).toLoadRect}
    {α : Type} {Q : α → sProp 𝕄} {k : Vec F S1x32x1024 .bf16 → Prog (TpuEff nD τ sig (Elt F) Λ₀ .tc) α} :
    slotPts fullShare c 0 f ⊢ iprop((slotPts fullShare c 0 f -∗ WP c (k (cM.view.readAt (Elt F) (pR e).toLoadRect f)) Q)
      -∗ WP c (.op (.load cM (pR e).toLoadRect hl) k) Q) := by
  rw [slotPts_eq]
  exact wp_load 𝒱₀ (c : Thread nD τ) none Set.univ (m := cM) (piece_load e)

/-- A product's store. -/
theorem wp_store_piece (e : Fin 8) (f : (cc0_scratch0 : Ref sig .tc).ty.Contents (Elt F)) (w : FVec F S1x32x1024 .bf16)
    {hx : (cM.access (pR e)).Stores Finset.univ} {hm : (Finset.univ : Finset (pR e).shape.Idx) = Finset.univ ∨ ∀ a, (pR e).stride a = 1}
    {α : Type} {Q : α → sProp 𝕄} {k : PUnit → Prog (TpuEff nD τ sig (Elt F) Λ₀ .tc) α} :
    slotPts fullShare c 0 f ⊢ iprop((slotPts fullShare c 0 (put e f w) -∗ WP c (k ⟨⟩) Q)
      -∗ WP c (.op (.store cM (pR e) w Finset.univ hx hm) k) Q) := by
  rw [slotPts_eq, slotPts_eq]
  exact wp_store 𝒱₀ (c : Thread nD τ) none Set.univ (m := cM) (r := pR e) (Mk := Finset.univ) (piece_access e)

/-- A load of one expert's weights. -/
theorem wp_load_w (W : Vec F S8x512x1024 .bf16) (e : Fin 8)
    {hl : View.LoadsAt wM.view (Rect.unit (s := S8x512x1024) ![e.val, 0, 0] S1x512x1024.size (inb_exp e)).toLoadRect}
    {α : Type} {Q : α → sProp 𝕄} {k : Vec F S1x512x1024 .bf16 → Prog (TpuEff nD τ sig (Elt F) Λ₀ .tc) α} :
    (((c : Thread nD τ).loc cc0_stg2_0) ↦{fullShare} W : sProp 𝕄) ⊢ iprop(((((c : Thread nD τ).loc cc0_stg2_0) ↦{fullShare} W) -∗ WP c (k (wBlk W e)) Q)
      -∗ WP c (.op (.load wM (Rect.unit (s := S8x512x1024) ![e.val, 0, 0] S1x512x1024.size (inb_exp e)).toLoadRect hl) k) Q) :=
  wp_load 𝒱₀ (c : Thread nD τ) none Set.univ (m := wM) (Finset.subset_univ _)

omit [FloatOps F] in
theorem hz : (![0, 0] : Fin 2 → Nat) = fun _ => 0 := funext fun a => by fin_cases a <;> rfl

abbrev oM : Memref sig .tc .vmem S2048x1024 .f32 := Memref.whole cc0_stg3_0
abbrev oR : Rect S2048x1024 := Rect.unit (s := S2048x1024) ![0, 0] S2048x1024.size inb_S2048x1024_S2048x1024_0_0
/-- The result's staging buffer at contents `f`. -/
def outPts (f : Vec F S2048x1024 .f32) : sProp 𝕄 := (((c : Thread nD τ).loc cc0_stg3_0) ↦{fullShare} f)

theorem wp_load_out (f : Vec F S2048x1024 .f32) {hl : View.LoadsAt oM.view oR.toLoadRect}
    {α : Type} {Q : α → sProp 𝕄} {k : Vec F S2048x1024 .f32 → Prog (TpuEff nD τ sig (Elt F) Λ₀ .tc) α} :
    outPts c f ⊢ iprop((outPts c f -∗ WP c (k f) Q) -∗ WP c (.op (.load oM oR.toLoadRect hl) k) Q) := by
  have hr : k (oM.view.readAt (Elt F) oR.toLoadRect f) = k f := congrArg k (Memref.readAt_unit_zero (Elt F) cc0_stg3_0 hz _ f)
  rw [← hr]
  exact wp_load 𝒱₀ (c : Thread nD τ) none Set.univ (m := oM) (Finset.subset_univ _)

theorem wp_store_out (f w : Vec F S2048x1024 .f32)
    {hx : (oM.access oR).Stores Finset.univ} {hm : (Finset.univ : Finset oR.shape.Idx) = Finset.univ ∨ ∀ a, oR.stride a = 1}
    {α : Type} {Q : α → sProp 𝕄} {k : PUnit → Prog (TpuEff nD τ sig (Elt F) Λ₀ .tc) α} :
    outPts c f ⊢ iprop((outPts c w -∗ WP c (k ⟨⟩) Q) -∗ WP c (.op (.store oM oR w Finset.univ hx hm) k) Q) := by
  have hw : outPts c w = outPts c ((oM.access oR : View sig .tc _ _ _).write (Elt F) f w Finset.univ) := congrArg (outPts c) (Memref.write_access_unit_zero_univ (Elt F) cc0_stg3_0 hz _ f w).symm
  rw [hw]
  exact wp_store 𝒱₀ (c : Thread nD τ) none Set.univ (m := oM) (r := oR) (Mk := Finset.univ) (Finset.subset_univ _)

abbrev iM : Memref sig .tc .vmem S2048x1 .i32 := Memref.whole cc0_stg1_0
abbrev iR : Rect S2048x1 := Rect.unit (s := S2048x1) ![0, 0] S2048x1.size inb_S2048x1_S2048x1_0_0
theorem wp_load_i (f : Vec F S2048x1 .i32) {hl : View.LoadsAt iM.view iR.toLoadRect}
    {α : Type} {Q : α → sProp 𝕄} {k : Vec F S2048x1 .i32 → Prog (TpuEff nD τ sig (Elt F) Λ₀ .tc) α} :
    (((c : Thread nD τ).loc cc0_stg1_0) ↦{fullShare} f : sProp 𝕄) ⊢ iprop(((((c : Thread nD τ).loc cc0_stg1_0) ↦{fullShare} f) -∗ WP c (k f) Q) -∗ WP c (.op (.load iM iR.toLoadRect hl) k) Q) := by
  have hr : k (iM.view.readAt (Elt F) iR.toLoadRect f) = k f := congrArg k (Memref.readAt_unit_zero (Elt F) cc0_stg1_0 hz _ f)
  rw [← hr]
  exact wp_load 𝒱₀ (c : Thread nD τ) none Set.univ (m := iM) (Finset.subset_univ _)

abbrev xM : Memref sig .tc .vmem S2048x512 .bf16 := Memref.whole cc0_stg0_0
abbrev xR : Rect S2048x512 := Rect.unit (s := S2048x512) ![0, 0] S2048x512.size inb_S2048x512_S2048x512_0_0
theorem wp_load_x (f : Vec F S2048x512 .bf16) {hl : View.LoadsAt xM.view xR.toLoadRect}
    {α : Type} {Q : α → sProp 𝕄} {k : Vec F S2048x512 .bf16 → Prog (TpuEff nD τ sig (Elt F) Λ₀ .tc) α} :
    (((c : Thread nD τ).loc cc0_stg0_0) ↦{fullShare} f : sProp 𝕄) ⊢ iprop(((((c : Thread nD τ).loc cc0_stg0_0) ↦{fullShare} f) -∗ WP c (k f) Q) -∗ WP c (.op (.load xM xR.toLoadRect hl) k) Q) := by
  have hr : k (xM.view.readAt (Elt F) xR.toLoadRect f) = k f := congrArg k (Memref.readAt_unit_zero (Elt F) cc0_stg0_0 hz _ f)
  rw [← hr]
  exact wp_load 𝒱₀ (c : Thread nD τ) none Set.univ (m := xM) (Finset.subset_univ _)

end Rules

end Cert.Moe

end
-- ==== Proof.Parts.lean ====
/- The kernel body's parts before the first combine: the barrier, the loads, the eight products and their stores, and
   the first two transfers. Each lemma says what a part needs and what it leaves, over any continuation. -/
module

public import proofs.«01_k».proof.Proof.Rules

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts
variable (K : Dev nD × Fin 15 → ℕ) (c : Dev nD)

abbrev xPts (x : Vec F S2048x512 .bf16) : sProp 𝕄 := (((c : Thread nD τ).loc cc0_stg0_0) ↦{fullShare} x)
abbrev iPts (i : Vec F S2048x1 .i32) : sProp 𝕄 := (((c : Thread nD τ).loc cc0_stg1_0) ↦{fullShare} i)
abbrev wPts (W : Vec F S8x512x1024 .bf16) : sProp 𝕄 := (((c : Thread nD τ).loc cc0_stg2_0) ↦{fullShare} W)

/-- What the barrier handshake takes. -/
def barPre : sProp 𝕄 :=
  iprop(owesE c (O₀ c) ∗ dutyTok ER (barCell (prv c)) 0 true ∗ dutyTok ER (barCell (nxt c)) 0 false
    ∗ cred (tallyAt (barCell c) () 2) ∗ atPos ER (barCell c) 0 ∅ 0 ∗ barPayT c ∗ barPayF c)
/-- What it leaves: the neighbours' slots this device will fill. -/
def barPost : sProp 𝕄 :=
  iprop(owesE c (owedX c order) ∗ semVal (barCell c) 0 ∗ barPayF (prv c) ∗ barPayT (nxt c))

set_option maxHeartbeats 1600000 in
/-- The barrier and the load of the routing indices. -/
theorem part1_spec (i : Vec F S2048x1 .i32) {Q : _ → sProp 𝕄} :
    iprop(records m K ∗ levAts L lv ∗ barPre c ∗ iPts c i
        ∗ ((barPost c ∗ iPts c i) -∗ Q ⟨c, word c, Scalar.remsi (Scalar.subi (Scalar.addi (word c) 8#32) 1#32) 8#32, Scalar.remsi (Scalar.addi (word c) 1#32) 8#32,
            k0_pay1 i, k0_pay2 (F := F), k0_pay3 (F := F), k0_pay5 i, k0_pay6 i⟩))
      ⊢ WP c (k0_part1 (F := F) xM (Memref.isWhole_whole _) iM (Memref.isWhole_whole _) wM (Memref.isWhole_whole _) oM (Memref.isWhole_whole _) cM (Memref.isWhole_whole _) cc0_scratch1 cc0_scratch2) Q := by
  simp only [k0_part1_eq_skeleton]; unfold k0_part1_skel
  simp only [semSignalWord, semWaitWord, Prog.lift, Prog.bind_op, Prog.bind_ret, Prog.pure_eq_ret, Prog.bind_assoc, wp_deviceId]
  unfold barPre barPost owesE word
  iintro ⟨#HR, #Hlev, ⟨⟨%W, HO⟩, Ht, Ht', Hc, Hat, HpT, HpF⟩, Hi, Hk⟩
  ihave #HI := (rec_inv m K (c, 0)) $$ HR
  ihave #HIp := (rec_inv m K (prv c, 0)) $$ HR
  ihave #HIn := (rec_inv m K (nxt c, 0)) $$ HR
  ihave #Hrp := (rec_reached m K (prv c, 0)) $$ HR
  ihave #Hrn := (rec_reached m K (nxt c, 0)) $$ HR
  simp only [kcell_bar]
  simp only [dev1_eq c, dev2_eq c]
  unfold O₀
  iapply (Rounds.wp_signal 𝒱₀ ER (rd m) (c : Thread nD τ) none (dst := (prv c : Thread nD τ)) (κ := K (prv c, 0))
      (d := true) (by rw [duties_bar]; exact Finset.mem_univ _) ((amount_bar m (prv c) true).trans (by decide)) () (O₁ c) rfl)
    $$ [HO Ht HpT]
  · isplitr; · iexact HIp
    isplitl [HO]; · iexact HO
    isplitl [Ht]; · iexact Ht
    isplitl [HpT]
    · rw [payload_bar_true, nxt_prv]; iexact HpT
    · iexact Hrp
  iintro HO
  unfold O₁
  iapply (Rounds.wp_signal 𝒱₀ ER (rd m) (c : Thread nD τ) none (dst := (nxt c : Thread nD τ)) (κ := K (nxt c, 0))
      (d := false) (by rw [duties_bar]; exact Finset.mem_univ _) ((amount_bar m (nxt c) false).trans (by decide)) () (owedX c order) rfl)
    $$ [HO Ht' HpF]
  · isplitr; · iexact HIn
    isplitl [HO]; · iexact HO
    isplitl [Ht']; · iexact Ht'
    isplitl [HpF]
    · rw [payload_bar_false, prv_nxt]; iexact HpF
    · iexact Hrn
  iintro HO
  iapply (Rounds.wp_wait_rest_token 𝒱₀ ER (rd m) (c : Thread nD τ) none (κ := K (c, 0))
      (wpE_semWait_eq 𝒱₀ (c : Thread nD τ) none Set.univ) (Set.mem_univ _) () (O := owedX c order) (W := W) (R := 0) (m := 0) (T := ∅)
      (by rw [expect_bar]; decide)) $$ [Hc HO Hat]
  · isplitr; · iexact HI
    isplitl [Hc]; · iexact Hc
    isplitl [HO]; · iexact HO
    isplitr; · iapply (mayWait_x c (.reg barS) order (by decide)); iexact Hlev
    iexact Hat
  iintro ⟨HO, Hat, -, Hpay⟩
  imod (Rounds.cell_close ER (rd m) (Set.mem_univ (K (c, 0))) (fun h => h) (R := 0 + 1) (duties_later m (barCell c))) $$ [Hat] with Hz
  · isplitr; · iexact HI
    iexact Hat
  ihave Hp2 := (Entails.of_eq (rest_bar m c)) $$ Hpay
  icases Hp2 with ⟨HF, HT⟩
  iapply (wp_load_i c i) $$ Hi; iintro Hi
  iapply (wp_done c)
  iapply Hk
  isplitr [Hi]
  · isplitl [HO]; · iexists _; iexact HO
    isplitl [Hz]; · iexact Hz
    isplitl [HF] <;> iassumption
  iexact Hi

/-- Part 2 only computes. -/
theorem part2_spec (v14 : IVec S2048x1 32) (v20 : FVec F S256x256 .bf16) (v21 : FVec F S1x64 .f32) (v30 : FVec F S256x64 .f32) {Q : _ → sProp 𝕄} :
    Q ⟨k0_pay10 v14 v20 v21 v30, k0_pay14 v14 v20 v21 v30, k0_pay15 v14 v21 v30, k0_pay17 (F := F) v14, k0_pay18 v14 v20 v21 v30⟩
      ⊢ WP c (k0_part2 (F := F) xM (Memref.isWhole_whole _) iM (Memref.isWhole_whole _) wM (Memref.isWhole_whole _) oM (Memref.isWhole_whole _) cM (Memref.isWhole_whole _) cc0_scratch1 cc0_scratch2 v14 v20 v21 v30) Q := by
  simp only [k0_part2_eq_skeleton]; unfold k0_part2_skel
  simp only [semSignalWord, semWaitWord, Prog.lift, Prog.bind_op, Prog.bind_ret, Prog.pure_eq_ret, Prog.bind_assoc, wp_deviceId]
  exact wp_done c _
/-- Part 3 only computes. -/
theorem part3_spec (v14 : IVec S2048x1 32) (v20 : FVec F S256x256 .bf16) (v72 : FVec F S1x64 .f32) (v81 : FVec F S256x64 .f32) {Q : _ → sProp 𝕄} :
    Q ⟨k0_pay22 v14 v20 v72 v81, k0_pay26 v14 v20 v72 v81, k0_pay27 v14 v72 v81, k0_pay29 (F := F) v14, k0_pay30 v14 v20 v72 v81⟩
      ⊢ WP c (k0_part3 (F := F) xM (Memref.isWhole_whole _) iM (Memref.isWhole_whole _) wM (Memref.isWhole_whole _) oM (Memref.isWhole_whole _) cM (Memref.isWhole_whole _) cc0_scratch1 cc0_scratch2 v14 v20 v72 v81) Q := by
  simp only [k0_part3_eq_skeleton]; unfold k0_part3_skel
  simp only [semSignalWord, semWaitWord, Prog.lift, Prog.bind_op, Prog.bind_ret, Prog.pure_eq_ret, Prog.bind_assoc, wp_deviceId]
  exact wp_done c _

/-- The number of each gather place, along the columns. -/
abbrev colIx : IVec S2048x256 32 := iota .tc S2048x256 32 [1] iota_S2048x256_d1_w32

/-- The load of the tokens; the ranks and the dispatched rows. -/
theorem part4_spec (i : Vec F S2048x1 .i32) (x : Vec F S2048x512 .bf16) (w : BitVec 32) {Q : _ → sProp 𝕄} :
    iprop(xPts c x ∗ (xPts c x -∗ Q ⟨rankv i, keepv i, colIx, xdv w i x, xd0v w i x⟩))
      ⊢ WP c (k0_part4 (F := F) xM (Memref.isWhole_whole _) iM (Memref.isWhole_whole _) wM (Memref.isWhole_whole _) oM (Memref.isWhole_whole _) cM (Memref.isWhole_whole _) cc0_scratch1 cc0_scratch2 w (k0_pay1 i) (k0_pay2 (F := F)) (k0_pay6 i)
        (k0_pay10 (k0_pay1 i) k0_pay2 k0_pay3 (k0_pay5 i)) (k0_pay14 (k0_pay1 i) k0_pay2 k0_pay3 (k0_pay5 i))
        (k0_pay18 (k0_pay1 i) k0_pay2 k0_pay3 (k0_pay5 i))
        (k0_pay22 (k0_pay1 i) k0_pay2 (k0_pay15 (k0_pay1 i) k0_pay3 (k0_pay5 i)) (k0_pay17 (k0_pay1 i)))
        (k0_pay26 (k0_pay1 i) k0_pay2 (k0_pay15 (k0_pay1 i) k0_pay3 (k0_pay5 i)) (k0_pay17 (k0_pay1 i)))
        (k0_pay27 (k0_pay1 i) (k0_pay15 (k0_pay1 i) k0_pay3 (k0_pay5 i)) (k0_pay17 (k0_pay1 i)))
        (k0_pay29 (k0_pay1 i))
        (k0_pay30 (k0_pay1 i) k0_pay2 (k0_pay15 (k0_pay1 i) k0_pay3 (k0_pay5 i)) (k0_pay17 (k0_pay1 i)))) Q := by
  simp only [k0_part4_eq_skeleton]; unfold k0_part4_skel
  simp only [semSignalWord, semWaitWord, Prog.lift, Prog.bind_op, Prog.bind_ret, Prog.pure_eq_ret, Prog.bind_assoc, wp_deviceId]
  unfold rankv keepv xdv xd0v colIx
  iintro ⟨Hx, Hk⟩
  iapply (wp_load_x c x) $$ Hx; iintro Hx
  iapply (wp_done c)
  iapply Hk; iexact Hx

set_option maxHeartbeats 1600000 in
/-- Products 0 to 2 stored, product 3 computed. -/
theorem part5_spec (f : (cc0_scratch0 : Ref sig .tc).ty.Contents (Elt F)) (W : Vec F S8x512x1024 .bf16) (v182 : FVec F S256x512 .bf16) (v183 : FVec F S32x512 .bf16) {Q : _ → sProp 𝕄} :
    iprop(wPts c W ∗ slotPts fullShare c 0 f
        ∗ ((wPts c W ∗ slotPts fullShare c 0 (put 2 (put 1 (put 0 f (k0_pay35 v183 (wBlk W 0))) (k0_pay36 v182 (wBlk W 1))) (k0_pay37 v182 (wBlk W 2))))
          -∗ Q (k0_pay38 v182 (wBlk W 3))))
      ⊢ WP c (k0_part5 (F := F) xM (Memref.isWhole_whole _) iM (Memref.isWhole_whole _) wM (Memref.isWhole_whole _) oM (Memref.isWhole_whole _) cM (Memref.isWhole_whole _) cc0_scratch1 cc0_scratch2 v182 v183) Q := by
  simp only [k0_part5_eq_skeleton]; unfold k0_part5_skel
  simp only [semSignalWord, semWaitWord, Prog.lift, Prog.bind_op, Prog.bind_ret, Prog.pure_eq_ret, Prog.bind_assoc, wp_deviceId]
  iintro ⟨Hw, Hs, Hk⟩
  iapply (wp_load_w c W 0) $$ Hw; iintro Hw
  iapply (wp_load_piece c 0 _) $$ Hs; iintro Hs
  iapply (wp_store_piece c 0 _ _) $$ Hs; iintro Hs
  iapply (wp_load_w c W 1) $$ Hw; iintro Hw
  iapply (wp_load_piece c 1 _) $$ Hs; iintro Hs
  iapply (wp_store_piece c 1 _ _) $$ Hs; iintro Hs
  iapply (wp_load_w c W 2) $$ Hw; iintro Hw
  iapply (wp_load_piece c 2 _) $$ Hs; iintro Hs
  iapply (wp_store_piece c 2 _ _) $$ Hs; iintro Hs
  iapply (wp_load_w c W 3) $$ Hw; iintro Hw
  iapply (wp_load_piece c 3 _) $$ Hs; iintro Hs
  iapply (wp_done c)
  iapply Hk
  isplitl [Hw] <;> iassumption

set_option maxHeartbeats 1600000 in
/-- Products 3 to 6 stored, product 7 computed. -/
theorem part6_spec (f : (cc0_scratch0 : Ref sig .tc).ty.Contents (Elt F)) (W : Vec F S8x512x1024 .bf16) (v182 : FVec F S256x512 .bf16) (v214 : FVec F S1x32x1024 .bf16) {Q : _ → sProp 𝕄} :
    iprop(wPts c W ∗ slotPts fullShare c 0 f
        ∗ ((wPts c W ∗ slotPts fullShare c 0 (put 6 (put 5 (put 4 (put 3 f v214) (k0_pay39 v182 (wBlk W 4))) (k0_pay40 v182 (wBlk W 5))) (k0_pay41 v182 (wBlk W 6))))
          -∗ Q (k0_pay42 v182 (wBlk W 7))))
      ⊢ WP c (k0_part6 (F := F) xM (Memref.isWhole_whole _) iM (Memref.isWhole_whole _) wM (Memref.isWhole_whole _) oM (Memref.isWhole_whole _) cM (Memref.isWhole_whole _) cc0_scratch1 cc0_scratch2 v182 v214) Q := by
  simp only [k0_part6_eq_skeleton]; unfold k0_part6_skel
  simp only [semSignalWord, semWaitWord, Prog.lift, Prog.bind_op, Prog.bind_ret, Prog.pure_eq_ret, Prog.bind_assoc, wp_deviceId]
  iintro ⟨Hw, Hs, Hk⟩
  iapply (wp_store_piece c 3 _ _) $$ Hs; iintro Hs
  iapply (wp_load_w c W 4) $$ Hw; iintro Hw
  iapply (wp_load_piece c 4 _) $$ Hs; iintro Hs
  iapply (wp_store_piece c 4 _ _) $$ Hs; iintro Hs
  iapply (wp_load_w c W 5) $$ Hw; iintro Hw
  iapply (wp_load_piece c 5 _) $$ Hs; iintro Hs
  iapply (wp_store_piece c 5 _ _) $$ Hs; iintro Hs
  iapply (wp_load_w c W 6) $$ Hw; iintro Hw
  iapply (wp_load_piece c 6 _) $$ Hs; iintro Hs
  iapply (wp_store_piece c 6 _ _) $$ Hs; iintro Hs
  iapply (wp_load_w c W 7) $$ Hw; iintro Hw
  iapply (wp_done c)
  iapply Hk
  isplitl [Hw] <;> iassumption

end Parts

end Cert.Moe

end
-- ==== Proof.Relay.lean ====
/- The kernel body's parts from the first transfers on: the relays around the ring and the eight combines. Each lemma
   says what a part needs and what it leaves, over any continuation. -/
module

public import proofs.«01_k».proof.Proof.Parts

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts
variable (K : Dev nD × Fin 15 → ℕ) (c : Dev nD)

set_option maxHeartbeats 1600000 in
/-- Product 7 stored, which fills slot 0; the two transfers out of it. -/
theorem part7_spec (f : (cc0_scratch0 : Ref sig .tc).ty.Contents (Elt F)) (v2 v5 v7 : BitVec 32) (v14 : IVec S2048x1 32) (v158 : IVec S2048x1 1) (v243 : FVec F S32x1024 .bf16)
    (hf : ∀ i ∈ slotSet 0, put 7 f (k0_pay43 v243) i = commF m c i) {Q : _ → sProp 𝕄} :
    iprop(records m K ∗ slotPts fullShare c 0 f ∗ (∃ f, slotPts fullShare (nxt c) 1 f) ∗ (∃ f, slotPts fullShare (prv c) 5 f)
        ∗ owesE c (owedX c order) ∗ sendTok c 0 ∗ sendTok c 4
        ∗ ((owesE c (owedX c [1, 5, 2, 6, 3]) ∗ waitTok c (sendS 0) ∗ waitTok c (sendS 4) ∗ slotPts fullShare.right.right c 0 (commF m c))
          -∗ Q ⟨k0_pay44 v2 v14, k0_pay45 v2 v14 v158, 32#32⟩))
      ⊢ WP c (k0_part7 (F := F) xM (Memref.isWhole_whole _) iM (Memref.isWhole_whole _) wM (Memref.isWhole_whole _) oM (Memref.isWhole_whole _) cM (Memref.isWhole_whole _) cc0_scratch1 cc0_scratch2 c v2 v5 v7 v14 v158 v243) Q := by
  simp only [k0_part7_eq_skeleton]; unfold k0_part7_skel
  simp only [semSignalWord, semWaitWord, Prog.lift, Prog.bind_op, Prog.bind_ret, Prog.pure_eq_ret, Prog.bind_assoc, wp_deviceId]
  simp only [slot_0, slot_1, slot_2, slot_3, slot_4, slot_5, slot_6, slot_7, send_0, send_1, send_2, send_3, send_4, send_5, send_6,
    recv_0, recv_1, recv_2, recv_3, recv_4, recv_5, recv_6]
  iintro ⟨#HR, Hs, Hd1, Hd5, HO, Ht0, Ht4, Hk⟩
  iapply (wp_load_piece c 7 _) $$ Hs; iintro Hs
  iapply (wp_store_piece c 7 _ _) $$ Hs; iintro Hs
  ihave H0 := (Entails.of_eq (slotPts_congr fullShare c 0 hf)) $$ Hs
  ihave Hh := (slot_halves fullShare c 0 (commF m c)).1 $$ H0
  icases Hh with ⟨HL0, HR0⟩
  ihave Hh := (slot_halves fullShare.right c 0 (commF m c)).1 $$ HR0
  icases Hh with ⟨HL4, HR0⟩
  iapply (wp_send m K c 0 _ (dev3_eq c) 0 1 rfl rfl [4, 1, 5, 2, 6, 3]) $$ [HL0 Hd1 HO Ht0]
  · isplitr; · iexact HR
    isplitl [HL0]; · iexact HL0
    isplitl [Hd1]; · iexact Hd1
    isplitl [HO]; · iexact HO
    iexact Ht0
  iintro ⟨Hw0, HO⟩
  iapply (wp_send m K c 4 _ (dev4_eq c) 0 5 rfl rfl [1, 5, 2, 6, 3]) $$ [HL4 Hd5 HO Ht4]
  · isplitr; · iexact HR
    isplitl [HL4]; · iexact HL4
    isplitl [Hd5]; · iexact Hd5
    isplitl [HO]; · iexact HO
    iexact Ht4
  iintro ⟨Hw4, HO⟩
  iapply (wp_done c)
  iapply Hk
  isplitl [HO]; · iexact HO
  isplitl [Hw0]; · iexact Hw0
  isplitl [Hw4]; · iexact Hw4
  iexact HR0

set_option maxHeartbeats 1600000 in
/-- The device's own slot combined; the first arrival from the left awaited. -/
theorem part8_spec (o : Vec F S2048x1024 .f32) (v7 : BitVec 32) (v156 : IVec S2048x1 32) (v159 : IVec S2048x256 32) (v269 : IVec S2048x1 32) (v275 : IVec S2048x1 1) (k32 : BitVec 32) {Q : _ → sProp 𝕄} :
    iprop(records m K ∗ levAts L lv ∗ slotPts fullShare.right.right c 0 (commF m c) ∗ outPts c o ∗ owesE c (owedX c [1, 5, 2, 6, 3]) ∗ waitTok c (recvS 0)
        ∗ ((owesE c (owedX c [1, 5, 2, 6, 3]) ∗ semVal (recvCell c 0) 0 ∗ slotPts fullShare.right.right c 0 (commF m c) ∗ slotPts fullShare c 1 (commF m c)
            ∗ outPts c (k0_pay46 v156 v159 v269 v275 k32 (slotBlk m c 0))) -∗ Q ⟨⟩))
      ⊢ WP c (k0_part8 (F := F) xM (Memref.isWhole_whole _) iM (Memref.isWhole_whole _) wM (Memref.isWhole_whole _) oM (Memref.isWhole_whole _) cM (Memref.isWhole_whole _) cc0_scratch1 cc0_scratch2 v7 v156 v159 v269 v275 k32) Q := by
  simp only [k0_part8_eq_skeleton]; unfold k0_part8_skel
  simp only [semSignalWord, semWaitWord, Prog.lift, Prog.bind_op, Prog.bind_ret, Prog.pure_eq_ret, Prog.bind_assoc, wp_deviceId]
  simp only [slot_0, slot_1, slot_2, slot_3, slot_4, slot_5, slot_6, slot_7, send_0, send_1, send_2, send_3, send_4, send_5, send_6,
    recv_0, recv_1, recv_2, recv_3, recv_4, recv_5, recv_6]
  iintro ⟨#HR, #Hlev, HR0, Ho, HO, Hv0, Hk⟩
  iapply (wp_load_slot m c fullShare.right.right 0) $$ HR0; iintro HR0
  iapply (wp_load_out c _) $$ Ho; iintro Ho
  iapply (wp_store_out c _ _) $$ Ho; iintro Ho
  iapply (wp_wait_recv m K c 0 [1, 5, 2, 6, 3] (by decide) 0 1 rfl) $$ [HO Hv0]
  · isplitr; · iexact HR
    isplitr; · iexact Hlev
    isplitl [HO]; · iexact HO
    iexact Hv0
  iintro ⟨HO, Hz0, H1⟩
  iapply (wp_done c)
  iapply Hk
  isplitl [HO]; · iexact HO
  isplitl [Hz0]; · iexact Hz0
  isplitl [HR0]; · iexact HR0
  isplitl [H1]; · iexact H1
  iexact Ho

set_option maxHeartbeats 1600000 in
/-- The relay to the right, the first arrival from the right, the relay to the left. -/
theorem part9_spec (v2 v5 : BitVec 32) (v14 : IVec S2048x1 32) {Q : _ → sProp 𝕄} :
    iprop(records m K ∗ levAts L lv ∗ slotPts fullShare c 1 (commF m c) ∗ (∃ f, slotPts fullShare (nxt c) 2 f) ∗ (∃ f, slotPts fullShare (prv c) 6 f)
        ∗ owesE c (owedX c [1, 5, 2, 6, 3]) ∗ sendTok c 1 ∗ sendTok c 5 ∗ waitTok c (recvS 4)
        ∗ ((owesE c (owedX c [2, 6, 3]) ∗ waitTok c (sendS 1) ∗ waitTok c (sendS 5) ∗ semVal (recvCell c 4) 0
            ∗ slotPts fullShare.right c 1 (commF m c) ∗ slotPts fullShare.right c 5 (commF m c))
          -∗ Q ⟨k0_pay47 v2 v14, k0_pay48 v2 v14, k0_pay49 v2 v14⟩))
      ⊢ WP c (k0_part9 (F := F) xM (Memref.isWhole_whole _) iM (Memref.isWhole_whole _) wM (Memref.isWhole_whole _) oM (Memref.isWhole_whole _) cM (Memref.isWhole_whole _) cc0_scratch1 cc0_scratch2 c v2 v5 v14) Q := by
  simp only [k0_part9_eq_skeleton]; unfold k0_part9_skel
  simp only [semSignalWord, semWaitWord, Prog.lift, Prog.bind_op, Prog.bind_ret, Prog.pure_eq_ret, Prog.bind_assoc, wp_deviceId]
  simp only [slot_0, slot_1, slot_2, slot_3, slot_4, slot_5, slot_6, slot_7, send_0, send_1, send_2, send_3, send_4, send_5, send_6,
    recv_0, recv_1, recv_2, recv_3, recv_4, recv_5, recv_6]
  iintro ⟨#HR, #Hlev, H1, Hd2, Hd6, HO, Ht1, Ht5, Hv4, Hk⟩
  ihave Hh := (slot_halves fullShare c 1 (commF m c)).1 $$ H1
  icases Hh with ⟨HL1, HR1⟩
  iapply (wp_send m K c 1 _ (dev5_eq c) 1 2 rfl rfl [5, 2, 6, 3]) $$ [HL1 Hd2 HO Ht1]
  · isplitr; · iexact HR
    isplitl [HL1]; · iexact HL1
    isplitl [Hd2]; · iexact Hd2
    isplitl [HO]; · iexact HO
    iexact Ht1
  iintro ⟨Hw1, HO⟩
  iapply (wp_wait_recv m K c 4 [5, 2, 6, 3] (by decide) 0 5 rfl) $$ [HO Hv4]
  · isplitr; · iexact HR
    isplitr; · iexact Hlev
    isplitl [HO]; · iexact HO
    iexact Hv4
  iintro ⟨HO, Hz4, H5⟩
  ihave Hh := (slot_halves fullShare c 5 (commF m c)).1 $$ H5
  icases Hh with ⟨HL5, HR5⟩
  iapply (wp_send m K c 5 _ (dev6_eq c) 5 6 rfl rfl [2, 6, 3]) $$ [HL5 Hd6 HO Ht5]
  · isplitr; · iexact HR
    isplitl [HL5]; · iexact HL5
    isplitl [Hd6]; · iexact Hd6
    isplitl [HO]; · iexact HO
    iexact Ht5
  iintro ⟨Hw5, HO⟩
  iapply (wp_done c)
  iapply Hk
  isplitl [HO]; · iexact HO
  isplitl [Hw1]; · iexact Hw1
  isplitl [Hw5]; · iexact Hw5
  isplitl [Hz4]; · iexact Hz4
  isplitl [HR1]; · iexact HR1
  iexact HR5

set_option maxHeartbeats 1600000 in
/-- Slot 1 combined. -/
theorem part10_spec (o : Vec F S2048x1024 .f32) (v2 : BitVec 32) (v14 v156 : IVec S2048x1 32) (v158 : IVec S2048x1 1) (v159 : IVec S2048x256 32) (v332 : IVec S2048x1 32) (v334 v336 : IVec S2048x1 1) {Q : _ → sProp 𝕄} :
    iprop(slotPts fullShare.right c 1 (commF m c) ∗ outPts c o
        ∗ ((slotPts fullShare.right c 1 (commF m c) ∗ outPts c (k0_pay50 v156 v158 v159 v332 v334 v336 (slotBlk m c 1) o)) -∗ Q (k0_pay51 (F := F) v2 v14 v156 v158 v159)))
      ⊢ WP c (k0_part10 (F := F) xM (Memref.isWhole_whole _) iM (Memref.isWhole_whole _) wM (Memref.isWhole_whole _) oM (Memref.isWhole_whole _) cM (Memref.isWhole_whole _) cc0_scratch1 cc0_scratch2 v2 v14 v156 v158 v159 v332 v334 v336) Q := by
  simp only [k0_part10_eq_skeleton]; unfold k0_part10_skel
  simp only [semSignalWord, semWaitWord, Prog.lift, Prog.bind_op, Prog.bind_ret, Prog.pure_eq_ret, Prog.bind_assoc, wp_deviceId]
  iintro ⟨HR1, Ho, Hk⟩
  iapply (wp_load_slot m c fullShare.right 1) $$ HR1; iintro HR1
  iapply (wp_load_out c _) $$ Ho; iintro Ho
  iapply (wp_load_out c _) $$ Ho; iintro Ho
  iapply (wp_store_out c _ _) $$ Ho; iintro Ho
  iapply (wp_done c)
  iapply Hk
  isplitl [HR1]; · iexact HR1
  iexact Ho

set_option maxHeartbeats 1600000 in
/-- Slot 5 combined; the second arrival from the left, relayed on. -/
theorem part11_spec (o : Vec F S2048x1024 .f32) (v7 : BitVec 32) (v377 : FVec F S2048x256 .bf16) {Q : _ → sProp 𝕄} :
    iprop(records m K ∗ levAts L lv ∗ slotPts fullShare.right c 5 (commF m c) ∗ outPts c o ∗ (∃ f, slotPts fullShare (nxt c) 3 f)
        ∗ owesE c (owedX c [2, 6, 3]) ∗ sendTok c 2 ∗ waitTok c (recvS 1)
        ∗ ((owesE c (owedX c [6, 3]) ∗ waitTok c (sendS 2) ∗ semVal (recvCell c 1) 0 ∗ slotPts fullShare.right c 5 (commF m c) ∗ slotPts fullShare.right c 2 (commF m c)
            ∗ outPts c (k0_pay52 v377 (slotBlk m c 5) o)) -∗ Q ⟨⟩))
      ⊢ WP c (k0_part11 (F := F) xM (Memref.isWhole_whole _) iM (Memref.isWhole_whole _) wM (Memref.isWhole_whole _) oM (Memref.isWhole_whole _) cM (Memref.isWhole_whole _) cc0_scratch1 cc0_scratch2 c v7 v377) Q := by
  simp only [k0_part11_eq_skeleton]; unfold k0_part11_skel
  simp only [semSignalWord, semWaitWord, Prog.lift, Prog.bind_op, Prog.bind_ret, Prog.pure_eq_ret, Prog.bind_assoc, wp_deviceId]
  simp only [slot_0, slot_1, slot_2, slot_3, slot_4, slot_5, slot_6, slot_7, send_0, send_1, send_2, send_3, send_4, send_5, send_6,
    recv_0, recv_1, recv_2, recv_3, recv_4, recv_5, recv_6]
  iintro ⟨#HR, #Hlev, HR5, Ho, Hd3, HO, Ht2, Hv1, Hk⟩
  iapply (wp_load_slot m c fullShare.right 5) $$ HR5; iintro HR5
  iapply (wp_load_out c _) $$ Ho; iintro Ho
  iapply (wp_load_out c _) $$ Ho; iintro Ho
  iapply (wp_store_out c _ _) $$ Ho; iintro Ho
  iapply (wp_wait_recv m K c 1 [2, 6, 3] (by decide) 1 2 rfl) $$ [HO Hv1]
  · isplitr; · iexact HR
    isplitr; · iexact Hlev
    isplitl [HO]; · iexact HO
    iexact Hv1
  iintro ⟨HO, Hz1, H2⟩
  ihave Hh := (slot_halves fullShare c 2 (commF m c)).1 $$ H2
  icases Hh with ⟨HL2, HR2⟩
  iapply (wp_send m K c 2 _ (dev7_eq c) 2 3 rfl rfl [6, 3]) $$ [HL2 Hd3 HO Ht2]
  · isplitr; · iexact HR
    isplitl [HL2]; · iexact HL2
    isplitl [Hd3]; · iexact Hd3
    isplitl [HO]; · iexact HO
    iexact Ht2
  iintro ⟨Hw2, HO⟩
  iapply (wp_done c)
  iapply Hk
  isplitl [HO]; · iexact HO
  isplitl [Hw2]; · iexact Hw2
  isplitl [Hz1]; · iexact Hz1
  isplitl [HR5]; · iexact HR5
  isplitl [HR2]; · iexact HR2
  iexact Ho

set_option maxHeartbeats 1600000 in
/-- The second arrival from the right, relayed on. -/
theorem part12_spec (v2 v5 : BitVec 32) (v14 v156 : IVec S2048x1 32) (v158 : IVec S2048x1 1) {Q : _ → sProp 𝕄} :
    iprop(records m K ∗ levAts L lv ∗ (∃ f, slotPts fullShare (prv c) 7 f)
        ∗ owesE c (owedX c [6, 3]) ∗ sendTok c 6 ∗ waitTok c (recvS 5)
        ∗ ((owesE c (owedX c [3]) ∗ waitTok c (sendS 6) ∗ semVal (recvCell c 5) 0 ∗ slotPts fullShare.right c 6 (commF m c))
          -∗ Q ⟨k0_pay54 v2 v14 v158, k0_pay55 v2 v14 v156⟩))
      ⊢ WP c (k0_part12 (F := F) xM (Memref.isWhole_whole _) iM (Memref.isWhole_whole _) wM (Memref.isWhole_whole _) oM (Memref.isWhole_whole _) cM (Memref.isWhole_whole _) cc0_scratch1 cc0_scratch2 c v2 v5 v14 v156 v158) Q := by
  simp only [k0_part12_eq_skeleton]; unfold k0_part12_skel
  simp only [semSignalWord, semWaitWord, Prog.lift, Prog.bind_op, Prog.bind_ret, Prog.pure_eq_ret, Prog.bind_assoc, wp_deviceId]
  simp only [slot_0, slot_1, slot_2, slot_3, slot_4, slot_5, slot_6, slot_7, send_0, send_1, send_2, send_3, send_4, send_5, send_6,
    recv_0, recv_1, recv_2, recv_3, recv_4, recv_5, recv_6]
  iintro ⟨#HR, #Hlev, Hd7, HO, Ht6, Hv5, Hk⟩
  iapply (wp_wait_recv m K c 5 [6, 3] (by decide) 5 6 rfl) $$ [HO Hv5]
  · isplitr; · iexact HR
    isplitr; · iexact Hlev
    isplitl [HO]; · iexact HO
    iexact Hv5
  iintro ⟨HO, Hz5, H6⟩
  ihave Hh := (slot_halves fullShare c 6 (commF m c)).1 $$ H6
  icases Hh with ⟨HL6, HR6⟩
  iapply (wp_send m K c 6 _ (dev8_eq c) 6 7 rfl rfl [3]) $$ [HL6 Hd7 HO Ht6]
  · isplitr; · iexact HR
    isplitl [HL6]; · iexact HL6
    isplitl [Hd7]; · iexact Hd7
    isplitl [HO]; · iexact HO
    iexact Ht6
  iintro ⟨Hw6, HO⟩
  iapply (wp_done c)
  iapply Hk
  isplitl [HO]; · iexact HO
  isplitl [Hw6]; · iexact Hw6
  isplitl [Hz5]; · iexact Hz5
  iexact HR6

set_option maxHeartbeats 1600000 in
/-- Slot 2 combined; slot 6 read. -/
theorem part13_spec (o : Vec F S2048x1024 .f32) (v2 : BitVec 32) (v14 v156 : IVec S2048x1 32) (v158 : IVec S2048x1 1) (v159 : IVec S2048x256 32) (v433 : IVec S2048x1 1) (v436 : IVec S2048x1 32) {Q : _ → sProp 𝕄} :
    iprop(slotPts fullShare.right c 2 (commF m c) ∗ slotPts fullShare.right c 6 (commF m c) ∗ outPts c o
        ∗ ((slotPts fullShare.right c 2 (commF m c) ∗ slotPts fullShare.right c 6 (commF m c) ∗ outPts c (k0_pay56 v159 v433 v436 (slotBlk m c 2) o))
          -∗ Q ⟨k0_pay57 (F := F) v2 v14 v156 v158 v159, k0_pay58 (slotBlk m c 6), constant S2048x1024 .f32 0x00000000#32⟩))
      ⊢ WP c (k0_part13 (F := F) xM (Memref.isWhole_whole _) iM (Memref.isWhole_whole _) wM (Memref.isWhole_whole _) oM (Memref.isWhole_whole _) cM (Memref.isWhole_whole _) cc0_scratch1 cc0_scratch2 v2 v14 v156 v158 v159 v433 v436) Q := by
  simp only [k0_part13_eq_skeleton]; unfold k0_part13_skel
  simp only [semSignalWord, semWaitWord, Prog.lift, Prog.bind_op, Prog.bind_ret, Prog.pure_eq_ret, Prog.bind_assoc, wp_deviceId]
  iintro ⟨HR2, HR6, Ho, Hk⟩
  iapply (wp_load_slot m c fullShare.right 2) $$ HR2; iintro HR2
  iapply (wp_load_out c _) $$ Ho; iintro Ho
  iapply (wp_load_out c _) $$ Ho; iintro Ho
  iapply (wp_store_out c _ _) $$ Ho; iintro Ho
  iapply (wp_load_slot m c fullShare.right 6) $$ HR6; iintro HR6
  iapply (wp_done c)
  iapply Hk
  isplitl [HR2]; · iexact HR2
  isplitl [HR6]; · iexact HR6
  iexact Ho

set_option maxHeartbeats 1600000 in
/-- Slot 6 combined; the third arrival from the left, relayed on. -/
theorem part14_spec (o : Vec F S2048x1024 .f32) (v5 v7 : BitVec 32) (v472 : FVec F S2048x256 .bf16) (v474 : FVec F S256x1024 .bf16) (z : FVec F S2048x1024 .f32) {Q : _ → sProp 𝕄} :
    iprop(records m K ∗ levAts L lv ∗ outPts c o ∗ (∃ f, slotPts fullShare (nxt c) 4 f)
        ∗ owesE c (owedX c [3]) ∗ sendTok c 3 ∗ waitTok c (recvS 2)
        ∗ ((owesE c (owedX c []) ∗ waitTok c (sendS 3) ∗ semVal (recvCell c 2) 0 ∗ slotPts fullShare.right c 3 (commF m c)
            ∗ outPts c (k0_pay59 v472 v474 z o)) -∗ Q ⟨⟩))
      ⊢ WP c (k0_part14 (F := F) xM (Memref.isWhole_whole _) iM (Memref.isWhole_whole _) wM (Memref.isWhole_whole _) oM (Memref.isWhole_whole _) cM (Memref.isWhole_whole _) cc0_scratch1 cc0_scratch2 c v5 v7 v472 v474 z) Q := by
  simp only [k0_part14_eq_skeleton]; unfold k0_part14_skel
  simp only [semSignalWord, semWaitWord, Prog.lift, Prog.bind_op, Prog.bind_ret, Prog.pure_eq_ret, Prog.bind_assoc, wp_deviceId]
  simp only [slot_0, slot_1, slot_2, slot_3, slot_4, slot_5, slot_6, slot_7, send_0, send_1, send_2, send_3, send_4, send_5, send_6,
    recv_0, recv_1, recv_2, recv_3, recv_4, recv_5, recv_6]
  iintro ⟨#HR, #Hlev, Ho, Hd4, HO, Ht3, Hv2, Hk⟩
  iapply (wp_load_out c _) $$ Ho; iintro Ho
  iapply (wp_load_out c _) $$ Ho; iintro Ho
  iapply (wp_store_out c _ _) $$ Ho; iintro Ho
  iapply (wp_wait_recv m K c 2 [3] (by decide) 2 3 rfl) $$ [HO Hv2]
  · isplitr; · iexact HR
    isplitr; · iexact Hlev
    isplitl [HO]; · iexact HO
    iexact Hv2
  iintro ⟨HO, Hz2, H3⟩
  ihave Hh := (slot_halves fullShare c 3 (commF m c)).1 $$ H3
  icases Hh with ⟨HL3, HR3⟩
  iapply (wp_send m K c 3 _ (dev9_eq c) 3 4 rfl rfl []) $$ [HL3 Hd4 HO Ht3]
  · isplitr; · iexact HR
    isplitl [HL3]; · iexact HL3
    isplitl [Hd4]; · iexact Hd4
    isplitl [HO]; · iexact HO
    iexact Ht3
  iintro ⟨Hw3, HO⟩
  iapply (wp_done c)
  iapply Hk
  isplitl [HO]; · iexact HO
  isplitl [Hw3]; · iexact Hw3
  isplitl [Hz2]; · iexact Hz2
  isplitl [HR3]; · iexact HR3
  iexact Ho

set_option maxHeartbeats 1600000 in
/-- The third arrival from the right; slot 3 combined. -/
theorem part15_spec (o : Vec F S2048x1024 .f32) (v2 : BitVec 32) (v14 v156 : IVec S2048x1 32) (v158 : IVec S2048x1 1) (v159 : IVec S2048x256 32) {Q : _ → sProp 𝕄} :
    iprop(records m K ∗ levAts L lv ∗ slotPts fullShare.right c 3 (commF m c) ∗ outPts c o ∗ owesE c (owedX c []) ∗ waitTok c (recvS 6)
        ∗ ((owesE c (owedX c []) ∗ semVal (recvCell c 6) 0 ∗ slotPts fullShare.right c 3 (commF m c) ∗ slotPts fullShare c 7 (commF m c)
            ∗ outPts c (k0_pay60 v2 v14 v156 v158 v159 (slotBlk m c 3) o)) -∗ Q ⟨Scalar.addi v2 2#32, 1#32⟩))
      ⊢ WP c (k0_part15 (F := F) xM (Memref.isWhole_whole _) iM (Memref.isWhole_whole _) wM (Memref.isWhole_whole _) oM (Memref.isWhole_whole _) cM (Memref.isWhole_whole _) cc0_scratch1 cc0_scratch2 v2 v14 v156 v158 v159) Q := by
  simp only [k0_part15_eq_skeleton]; unfold k0_part15_skel
  simp only [semSignalWord, semWaitWord, Prog.lift, Prog.bind_op, Prog.bind_ret, Prog.pure_eq_ret, Prog.bind_assoc, wp_deviceId]
  simp only [slot_0, slot_1, slot_2, slot_3, slot_4, slot_5, slot_6, slot_7, send_0, send_1, send_2, send_3, send_4, send_5, send_6,
    recv_0, recv_1, recv_2, recv_3, recv_4, recv_5, recv_6]
  iintro ⟨#HR, #Hlev, HR3, Ho, HO, Hv6, Hk⟩
  iapply (wp_wait_recv m K c 6 [] (by decide) 6 7 rfl) $$ [HO Hv6]
  · isplitr; · iexact HR
    isplitr; · iexact Hlev
    isplitl [HO]; · iexact HO
    iexact Hv6
  iintro ⟨HO, Hz6, H7⟩
  iapply (wp_load_slot m c fullShare.right 3) $$ HR3; iintro HR3
  iapply (wp_load_out c _) $$ Ho; iintro Ho
  iapply (wp_load_out c _) $$ Ho; iintro Ho
  iapply (wp_store_out c _ _) $$ Ho; iintro Ho
  iapply (wp_done c)
  iapply Hk
  isplitl [HO]; · iexact HO
  isplitl [Hz6]; · iexact Hz6
  isplitl [HR3]; · iexact HR3
  isplitl [H7]; · iexact H7
  iexact Ho

set_option maxHeartbeats 1600000 in
/-- Slot 7 combined. -/
theorem part16_spec (o : Vec F S2048x1024 .f32) (v7 : BitVec 32) (v14 v156 : IVec S2048x1 32) (v158 : IVec S2048x1 1) (v159 : IVec S2048x256 32) (v536 k1 : BitVec 32) {Q : _ → sProp 𝕄} :
    iprop(slotPts fullShare c 7 (commF m c) ∗ outPts c o
        ∗ ((slotPts fullShare c 7 (commF m c) ∗ outPts c (k0_pay61 v14 v156 v158 v159 v536 k1 (slotBlk m c 7) o)) -∗ Q ⟨⟩))
      ⊢ WP c (k0_part16 (F := F) xM (Memref.isWhole_whole _) iM (Memref.isWhole_whole _) wM (Memref.isWhole_whole _) oM (Memref.isWhole_whole _) cM (Memref.isWhole_whole _) cc0_scratch1 cc0_scratch2 v7 v14 v156 v158 v159 v536 k1) Q := by
  simp only [k0_part16_eq_skeleton]; unfold k0_part16_skel
  simp only [semSignalWord, semWaitWord, Prog.lift, Prog.bind_op, Prog.bind_ret, Prog.pure_eq_ret, Prog.bind_assoc, wp_deviceId]
  iintro ⟨HR7, Ho, Hk⟩
  iapply (wp_load_slot m c fullShare 7) $$ HR7; iintro HR7
  iapply (wp_load_out c _) $$ Ho; iintro Ho
  iapply (wp_load_out c _) $$ Ho; iintro Ho
  iapply (wp_store_out c _ _) $$ Ho; iintro Ho
  iapply (wp_done c)
  iapply Hk
  isplitl [HR7]; · iexact HR7
  iexact Ho

set_option maxHeartbeats 1600000 in
/-- The last arrival, in slot 4, combined. -/
theorem part17_spec (o : Vec F S2048x1024 .f32) (v2 : BitVec 32) (v14 v156 : IVec S2048x1 32) (v158 : IVec S2048x1 1) (v159 : IVec S2048x256 32) {Q : _ → sProp 𝕄} :
    iprop(records m K ∗ levAts L lv ∗ outPts c o ∗ owesE c (owedX c []) ∗ waitTok c (recvS 3)
        ∗ ((owesE c (owedX c []) ∗ semVal (recvCell c 3) 0 ∗ slotPts fullShare c 4 (commF m c)
            ∗ outPts c (k0_pay62 v2 v14 v156 v158 v159 (slotBlk m c 4) o)) -∗ Q ⟨⟩))
      ⊢ WP c (k0_part17 (F := F) xM (Memref.isWhole_whole _) iM (Memref.isWhole_whole _) wM (Memref.isWhole_whole _) oM (Memref.isWhole_whole _) cM (Memref.isWhole_whole _) cc0_scratch1 cc0_scratch2 v2 v14 v156 v158 v159) Q := by
  simp only [k0_part17_eq_skeleton]; unfold k0_part17_skel
  simp only [semSignalWord, semWaitWord, Prog.lift, Prog.bind_op, Prog.bind_ret, Prog.pure_eq_ret, Prog.bind_assoc, wp_deviceId]
  simp only [slot_0, slot_1, slot_2, slot_3, slot_4, slot_5, slot_6, slot_7, send_0, send_1, send_2, send_3, send_4, send_5, send_6,
    recv_0, recv_1, recv_2, recv_3, recv_4, recv_5, recv_6]
  iintro ⟨#HR, #Hlev, Ho, HO, Hv3, Hk⟩
  iapply (wp_wait_recv m K c 3 [] (by decide) 3 4 rfl) $$ [HO Hv3]
  · isplitr; · iexact HR
    isplitr; · iexact Hlev
    isplitl [HO]; · iexact HO
    iexact Hv3
  iintro ⟨HO, Hz3, HR4⟩
  iapply (wp_load_slot m c fullShare 4) $$ HR4; iintro HR4
  iapply (wp_load_out c _) $$ Ho; iintro Ho
  iapply (wp_load_out c _) $$ Ho; iintro Ho
  iapply (wp_store_out c _ _) $$ Ho; iintro Ho
  iapply (wp_done c)
  iapply Hk
  isplitl [HO]; · iexact HO
  isplitl [Hz3]; · iexact Hz3
  isplitl [HR4]; · iexact HR4
  iexact Ho

set_option maxHeartbeats 1600000 in
/-- The right-going transfers' ends: the lent shares return. -/
theorem part18_spec {Q : _ → sProp 𝕄} :
    iprop(records m K ∗ levAts L lv ∗ owesE c (owedX c []) ∗ waitTok c (sendS 0) ∗ waitTok c (sendS 1) ∗ waitTok c (sendS 2) ∗ waitTok c (sendS 3)
        ∗ ((owesE c (owedX c []) ∗ (semVal (sendCell c 0) 0 ∗ semVal (sendCell c 1) 0 ∗ semVal (sendCell c 2) 0 ∗ semVal (sendCell c 3) 0)
            ∗ slotPts fullShare.left c 0 (commF m c) ∗ slotPts fullShare.left c 1 (commF m c) ∗ slotPts fullShare.left c 2 (commF m c)
            ∗ slotPts fullShare.left c 3 (commF m c)) -∗ Q ⟨⟩))
      ⊢ WP c (k0_part18 (F := F) xM (Memref.isWhole_whole _) iM (Memref.isWhole_whole _) wM (Memref.isWhole_whole _) oM (Memref.isWhole_whole _) cM (Memref.isWhole_whole _) cc0_scratch1 cc0_scratch2) Q := by
  simp only [k0_part18_eq_skeleton]; unfold k0_part18_skel
  simp only [semSignalWord, semWaitWord, Prog.lift, Prog.bind_op, Prog.bind_ret, Prog.pure_eq_ret, Prog.bind_assoc, wp_deviceId]
  simp only [slot_0, slot_1, slot_2, slot_3, slot_4, slot_5, slot_6, slot_7, send_0, send_1, send_2, send_3, send_4, send_5, send_6,
    recv_0, recv_1, recv_2, recv_3, recv_4, recv_5, recv_6]
  iintro ⟨#HR, #Hlev, HO, Hw0, Hw1, Hw2, Hw3, Hk⟩
  iapply (wp_wait_send m K c 0 1 0 0 rfl) $$ [HO Hw0]
  · isplitr; · iexact HR
    isplitr; · iexact Hlev
    isplitl [HO]; · iexact HO
    iexact Hw0
  iintro ⟨HO, Hy0, HL0⟩
  iapply (wp_wait_send m K c 1 2 1 1 rfl) $$ [HO Hw1]
  · isplitr; · iexact HR
    isplitr; · iexact Hlev
    isplitl [HO]; · iexact HO
    iexact Hw1
  iintro ⟨HO, Hy1, HL1⟩
  iapply (wp_wait_send m K c 2 3 2 2 rfl) $$ [HO Hw2]
  · isplitr; · iexact HR
    isplitr; · iexact Hlev
    isplitl [HO]; · iexact HO
    iexact Hw2
  iintro ⟨HO, Hy2, HL2⟩
  iapply (wp_wait_send m K c 3 4 3 3 rfl) $$ [HO Hw3]
  · isplitr; · iexact HR
    isplitr; · iexact Hlev
    isplitl [HO]; · iexact HO
    iexact Hw3
  iintro ⟨HO, Hy3, HL3⟩
  iapply (wp_done c)
  iapply Hk
  isplitl [HO]; · iexact HO
  isplitl [Hy0 Hy1 Hy2 Hy3]
  · isplitl [Hy0]; · iexact Hy0
    isplitl [Hy1]; · iexact Hy1
    isplitl [Hy2] <;> iassumption
  isplitl [HL0]; · iexact HL0
  isplitl [HL1]; · iexact HL1
  isplitl [HL2]; · iexact HL2
  iexact HL3

end Parts

end Cert.Moe

end
-- ==== Proof.Core.lean ====
/- The body as a whole at one device: its parts in sequence, then the pipeline's data and its obligation. -/
module

public import proofs.«01_k».proof.Proof.Relay

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What one program runs before another: the second over what the first leaves. -/
theorem wp_step (c : Dev nD) {α β : Type} (p : Prog (TpuEff nD τ sig (Elt F) Λ₀ .tc) α) (k : α → Prog (TpuEff nD τ sig (Elt F) Λ₀ .tc) β) (Q : β → sProp 𝕄) :
    WP c p (fun a => WP c (k a) Q) ⊢ WP c (p >>= k) Q := Entails.of_eq (wp_bind ..).symm

/-- The device's own products, stored one after the other, fill slot 0. -/
theorem filled' (c : Dev nD) (f : (cc0_scratch0 : Ref sig .tc).ty.Contents (Elt F)) :
    ∀ i ∈ slotSet 0, put 7 (put 6 (put 5 (put 4 (put 3 (put 2 (put 1 (put 0 f (k0_pay35 (xd0v (word c) (istg m c) (xstg m c)) (wBlk (wstg m c) 0))) (k0_pay36 (xdv (word c) (istg m c) (xstg m c)) (wBlk (wstg m c) 1))) (k0_pay37 (xdv (word c) (istg m c) (xstg m c)) (wBlk (wstg m c) 2))) (k0_pay38 (xdv (word c) (istg m c) (xstg m c)) (wBlk (wstg m c) 3))) (k0_pay39 (xdv (word c) (istg m c) (xstg m c)) (wBlk (wstg m c) 4))) (k0_pay40 (xdv (word c) (istg m c) (xstg m c)) (wBlk (wstg m c) 5))) (k0_pay41 (xdv (word c) (istg m c) (xstg m c)) (wBlk (wstg m c) 6))) (k0_pay43 (k0_pay42 (xdv (word c) (istg m c) (xstg m c)) (wBlk (wstg m c) 7))) i = commF m c i :=
  filled m c f

/-- The result after each of the eight contributions: the device's own, then those of its neighbours as they come. -/
def out0 (c : Dev nD) : FVec F S2048x1024 .f32 :=
  k0_pay46 (rankv (istg m c)) colIx (k0_pay44 (word c) (k0_pay1 (istg m c))) (k0_pay45 (word c) (k0_pay1 (istg m c)) (keepv (istg m c))) 32#32 (slotBlk m c 0)
/-- The result after the second contribution. -/
def out1 (c : Dev nD) : FVec F S2048x1024 .f32 :=
  k0_pay50 (rankv (istg m c)) (keepv (istg m c)) colIx (k0_pay47 (word c) (k0_pay1 (istg m c))) (k0_pay48 (word c) (k0_pay1 (istg m c))) (k0_pay49 (word c) (k0_pay1 (istg m c))) (slotBlk m c 1) (out0 m c)
/-- The result after the third. -/
def out2 (c : Dev nD) : FVec F S2048x1024 .f32 :=
  k0_pay52 (k0_pay51 (word c) (k0_pay1 (istg m c)) (rankv (istg m c)) (keepv (istg m c)) colIx) (slotBlk m c 5) (out1 m c)
/-- The result after the fourth. -/
def out3 (c : Dev nD) : FVec F S2048x1024 .f32 :=
  k0_pay56 colIx (k0_pay54 (word c) (k0_pay1 (istg m c)) (keepv (istg m c))) (k0_pay55 (word c) (k0_pay1 (istg m c)) (rankv (istg m c))) (slotBlk m c 2) (out2 m c)
/-- The result after the fifth. -/
def out4 (c : Dev nD) : FVec F S2048x1024 .f32 :=
  k0_pay59 (k0_pay57 (word c) (k0_pay1 (istg m c)) (rankv (istg m c)) (keepv (istg m c)) colIx) (k0_pay58 (slotBlk m c 6)) (constant S2048x1024 .f32 0x00000000#32) (out3 m c)
/-- The result after the sixth. -/
def out5 (c : Dev nD) : FVec F S2048x1024 .f32 :=
  k0_pay60 (word c) (k0_pay1 (istg m c)) (rankv (istg m c)) (keepv (istg m c)) colIx (slotBlk m c 3) (out4 m c)
/-- The result after the seventh. -/
def out6 (c : Dev nD) : FVec F S2048x1024 .f32 :=
  k0_pay61 (k0_pay1 (istg m c)) (rankv (istg m c)) (keepv (istg m c)) colIx (Scalar.addi (word c) 2#32) 1#32 (slotBlk m c 7) (out5 m c)
/-- The result after all eight. -/
def outAt (c : Dev nD) : FVec F S2048x1024 .f32 :=
  k0_pay62 (word c) (k0_pay1 (istg m c)) (rankv (istg m c)) (keepv (istg m c)) colIx (slotBlk m c 4) (out6 m c)

section Core
variable (K : Dev nD × Fin 15 → ℕ) (c : Dev nD)

/-- What the body leaves: nothing owed, every semaphore at zero, the gather buffer complete, the result staged. -/
def corePost : sProp 𝕄 :=
  iprop(owesE c (owedX c []) ∗ semVal (barCell c) 0
    ∗ (semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0)
    ∗ (semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0)
    ∗ (slotPts fullShare c 0 (commF m c) ∗ slotPts fullShare c 1 (commF m c) ∗ slotPts fullShare c 2 (commF m c) ∗ slotPts fullShare c 3 (commF m c) ∗ slotPts fullShare c 4 (commF m c) ∗ slotPts fullShare c 5 (commF m c) ∗ slotPts fullShare c 6 (commF m c) ∗ slotPts fullShare c 7 (commF m c))
    ∗ xPts c (xstg m c) ∗ iPts c (istg m c) ∗ wPts c (wstg m c) ∗ outPts c (outAt m c))

set_option maxHeartbeats 6400000 in
set_option maxRecDepth 4000 in
/-- The body, from the handshake to the last wait. -/
theorem core_body {Q : PUnit → sProp 𝕄} :
    iprop(records m K ∗ levAts L lv ∗ barPre c ∗ (∃ f, slotPts fullShare c 0 f)
        ∗ (sendTok c 0 ∗ sendTok c 1 ∗ sendTok c 2 ∗ sendTok c 3 ∗ sendTok c 4 ∗ sendTok c 5 ∗ sendTok c 6)
        ∗ (waitTok c (recvS 0) ∗ waitTok c (recvS 1) ∗ waitTok c (recvS 2) ∗ waitTok c (recvS 3) ∗ waitTok c (recvS 4) ∗ waitTok c (recvS 5) ∗ waitTok c (recvS 6))
        ∗ xPts c (xstg m c) ∗ iPts c (istg m c) ∗ wPts c (wstg m c) ∗ (∃ o, outPts c o)
        ∗ (corePost m c -∗ Q ⟨⟩))
      ⊢ WP c (cc0_body (F := F) xM (Memref.isWhole_whole _) iM (Memref.isWhole_whole _) wM (Memref.isWhole_whole _) oM (Memref.isWhole_whole _) cM (Memref.isWhole_whole _) cc0_scratch1 cc0_scratch2) Q := by
  simp only [cc0_body_eq_skeleton]; unfold cc0_body_skel
  simp only [k0_part19_eq_skeleton]; unfold k0_part19_skel
  simp only [Prog.lift, Prog.bind_op, Prog.bind_ret, Prog.pure_eq_ret, Prog.bind_assoc]
  simp only [slot_0, slot_1, slot_2, slot_3, slot_4, slot_5, slot_6, slot_7, send_0, send_1, send_2, send_3, send_4, send_5, send_6,
    recv_0, recv_1, recv_2, recv_3, recv_4, recv_5, recv_6]
  iintro ⟨#HR, #Hlev, Hbar, ⟨%f, Hs0⟩, ⟨Hs_0, Hs_1, Hs_2, Hs_3, Hs_4, Hs_5, Hs_6⟩, ⟨Hr_0, Hr_1, Hr_2, Hr_3, Hr_4, Hr_5, Hr_6⟩, Hx, Hi, Hw, ⟨%o, Ho⟩, Hk⟩
  iapply (wp_step c)
  iapply (part1_spec m K c (istg m c))
  isplitr; · iexact HR
  isplitr; · iexact Hlev
  isplitl [Hbar]; · iexact Hbar
  isplitl [Hi]; · iexact Hi
  iintro ⟨Hbar, Hi⟩
  unfold barPost barPayF barPayT
  icases Hbar with ⟨HO, HzB, ⟨Hp5, Hp6, Hp7⟩, Hn1, Hn2, Hn3, Hn4⟩
  iapply (wp_step c)
  iapply (part2_spec c _ _ _ _)
  iapply (wp_step c)
  iapply (part3_spec c _ _ _ _)
  iapply (wp_step c)
  iapply (part4_spec c (istg m c) (xstg m c) (word c))
  isplitl [Hx]; · iexact Hx
  iintro Hx
  iapply (wp_step c)
  iapply (part5_spec c f (wstg m c) (xdv (word c) (istg m c) (xstg m c)) (xd0v (word c) (istg m c) (xstg m c)))
  isplitl [Hw]; · iexact Hw
  isplitl [Hs0]; · iexact Hs0
  iintro ⟨Hw, Hs0⟩
  iapply (wp_step c)
  iapply (part6_spec c _ (wstg m c) (xdv (word c) (istg m c) (xstg m c)) _)
  isplitl [Hw]; · iexact Hw
  isplitl [Hs0]; · iexact Hs0
  iintro ⟨Hw, Hs0⟩
  iapply (wp_step c)
  iapply (part7_spec m K c _ _ _ _ _ _ _ (filled' m c f))
  isplitr; · iexact HR
  isplitl [Hs0]; · iexact Hs0
  isplitl [Hn1]; · iexact Hn1
  isplitl [Hp5]; · iexact Hp5
  isplitl [HO]; · iexact HO
  isplitl [Hs_0]; · iexact Hs_0
  isplitl [Hs_4]; · iexact Hs_4
  iintro ⟨HO, Hw_0, Hw_4, H0⟩
  iapply (wp_step c)
  iapply (part8_spec m K c _ _ _ _ _ _ _)
  isplitr; · iexact HR
  isplitr; · iexact Hlev
  isplitl [H0]; · iexact H0
  isplitl [Ho]; · iexact Ho
  isplitl [HO]; · iexact HO
  isplitl [Hr_0]; · iexact Hr_0
  iintro ⟨HO, Hz_0, H0, H1, Ho⟩
  iapply (wp_step c)
  iapply (part9_spec m K c _ _ _)
  isplitr; · iexact HR
  isplitr; · iexact Hlev
  isplitl [H1]; · iexact H1
  isplitl [Hn2]; · iexact Hn2
  isplitl [Hp6]; · iexact Hp6
  isplitl [HO]; · iexact HO
  isplitl [Hs_1]; · iexact Hs_1
  isplitl [Hs_5]; · iexact Hs_5
  isplitl [Hr_4]; · iexact Hr_4
  iintro ⟨HO, Hw_1, Hw_5, Hz_4, H1, H5⟩
  iapply (wp_step c)
  iapply (part10_spec m c _ _ _ _ _ _ _ _ _)
  isplitl [H1]; · iexact H1
  isplitl [Ho]; · iexact Ho
  iintro ⟨H1, Ho⟩
  iapply (wp_step c)
  iapply (part11_spec m K c _ _ _)
  isplitr; · iexact HR
  isplitr; · iexact Hlev
  isplitl [H5]; · iexact H5
  isplitl [Ho]; · iexact Ho
  isplitl [Hn3]; · iexact Hn3
  isplitl [HO]; · iexact HO
  isplitl [Hs_2]; · iexact Hs_2
  isplitl [Hr_1]; · iexact Hr_1
  iintro ⟨HO, Hw_2, Hz_1, H5, H2, Ho⟩
  iapply (wp_step c)
  iapply (part12_spec m K c _ _ _ _ _)
  isplitr; · iexact HR
  isplitr; · iexact Hlev
  isplitl [Hp7]; · iexact Hp7
  isplitl [HO]; · iexact HO
  isplitl [Hs_6]; · iexact Hs_6
  isplitl [Hr_5]; · iexact Hr_5
  iintro ⟨HO, Hw_6, Hz_5, H6⟩
  iapply (wp_step c)
  iapply (part13_spec m c _ _ _ _ _ _ _ _)
  isplitl [H2]; · iexact H2
  isplitl [H6]; · iexact H6
  isplitl [Ho]; · iexact Ho
  iintro ⟨H2, H6, Ho⟩
  iapply (wp_step c)
  iapply (part14_spec m K c _ _ _ _ _ _)
  isplitr; · iexact HR
  isplitr; · iexact Hlev
  isplitl [Ho]; · iexact Ho
  isplitl [Hn4]; · iexact Hn4
  isplitl [HO]; · iexact HO
  isplitl [Hs_3]; · iexact Hs_3
  isplitl [Hr_2]; · iexact Hr_2
  iintro ⟨HO, Hw_3, Hz_2, H3, Ho⟩
  iapply (wp_step c)
  iapply (part15_spec m K c _ _ _ _ _ _)
  isplitr; · iexact HR
  isplitr; · iexact Hlev
  isplitl [H3]; · iexact H3
  isplitl [Ho]; · iexact Ho
  isplitl [HO]; · iexact HO
  isplitl [Hr_6]; · iexact Hr_6
  iintro ⟨HO, Hz_6, H3, H7, Ho⟩
  iapply (wp_step c)
  iapply (part16_spec m c _ _ _ _ _ _ _ _)
  isplitl [H7]; · iexact H7
  isplitl [Ho]; · iexact Ho
  iintro ⟨H7, Ho⟩
  iapply (wp_step c)
  iapply (part17_spec m K c _ _ _ _ _ _)
  isplitr; · iexact HR
  isplitr; · iexact Hlev
  isplitl [Ho]; · iexact Ho
  isplitl [HO]; · iexact HO
  isplitl [Hr_3]; · iexact Hr_3
  iintro ⟨HO, Hz_3, H4, Ho⟩
  iapply (wp_step c)
  iapply (part18_spec m K c)
  isplitr; · iexact HR
  isplitr; · iexact Hlev
  isplitl [HO]; · iexact HO
  isplitl [Hw_0]; · iexact Hw_0
  isplitl [Hw_1]; · iexact Hw_1
  isplitl [Hw_2]; · iexact Hw_2
  isplitl [Hw_3]; · iexact Hw_3
  iintro ⟨HO, ⟨Hy_0, Hy_1, Hy_2, Hy_3⟩, HL0, HL1, HL2, HL3⟩
  iapply (wp_wait_send m K c 4 5 0 0 rfl) $$ [HO Hw_4]
  · isplitr; · iexact HR
    isplitr; · iexact Hlev
    isplitl [HO]; · iexact HO
    iexact Hw_4
  iintro ⟨HO, Hy_4, HL4⟩
  iapply (wp_wait_send m K c 5 6 5 5 rfl) $$ [HO Hw_5]
  · isplitr; · iexact HR
    isplitr; · iexact Hlev
    isplitl [HO]; · iexact HO
    iexact Hw_5
  iintro ⟨HO, Hy_5, HL5⟩
  iapply (wp_wait_send m K c 6 7 6 6 rfl) $$ [HO Hw_6]
  · isplitr; · iexact HR
    isplitr; · iexact Hlev
    isplitl [HO]; · iexact HO
    iexact Hw_6
  iintro ⟨HO, Hy_6, HL6⟩
  iapply (wp_done c)
  iapply Hk
  unfold corePost
  isplitl [HO]; · iexact HO
  isplitl [HzB]; · iexact HzB
  isplitl [Hy_0 Hy_1 Hy_2 Hy_3 Hy_4 Hy_5 Hy_6]
  · isplitl [Hy_0]; · iexact Hy_0
    isplitl [Hy_1]; · iexact Hy_1
    isplitl [Hy_2]; · iexact Hy_2
    isplitl [Hy_3]; · iexact Hy_3
    isplitl [Hy_4]; · iexact Hy_4
    isplitl [Hy_5]; · iexact Hy_5
    iexact Hy_6
  isplitl [Hz_0 Hz_1 Hz_2 Hz_3 Hz_4 Hz_5 Hz_6]
  · isplitl [Hz_0]; · iexact Hz_0
    isplitl [Hz_1]; · iexact Hz_1
    isplitl [Hz_2]; · iexact Hz_2
    isplitl [Hz_3]; · iexact Hz_3
    isplitl [Hz_4]; · iexact Hz_4
    isplitl [Hz_5]; · iexact Hz_5
    iexact Hz_6
  isplitl [H0 H1 H2 H3 H4 H5 H6 H7 HL0 HL1 HL2 HL3 HL4 HL5 HL6]
  · ihave HR0 := (slot_halves fullShare.right c 0 (commF m c)).2 $$ [HL4 H0]
    · isplitl [HL4]; · iexact HL4
      iexact H0
    isplitl [HL0 HR0]
    · iapply (slot_halves fullShare c 0 (commF m c)).2; isplitl [HL0]; · iexact HL0
      iexact HR0
    isplitl [HL1 H1]
    · iapply (slot_halves fullShare c 1 (commF m c)).2; isplitl [HL1]; · iexact HL1
      iexact H1
    isplitl [HL2 H2]
    · iapply (slot_halves fullShare c 2 (commF m c)).2; isplitl [HL2]; · iexact HL2
      iexact H2
    isplitl [HL3 H3]
    · iapply (slot_halves fullShare c 3 (commF m c)).2; isplitl [HL3]; · iexact HL3
      iexact H3
    isplitl [H4]; · iexact H4
    isplitl [HL5 H5]
    · iapply (slot_halves fullShare c 5 (commF m c)).2; isplitl [HL5]; · iexact HL5
      iexact H5
    isplitl [HL6 H6]
    · iapply (slot_halves fullShare c 6 (commF m c)).2; isplitl [HL6]; · iexact HL6
      iexact H6
    iexact H7
  isplitl [Hx]; · iexact Hx
  isplitl [Hi]; · iexact Hi
  isplitl [Hw]; · iexact Hw
  iexact Ho

end Core

end Cert.Moe

end
-- ==== Proof.Ranks.lean ====
/- How many earlier tokens chose a token's expert: the kernel counts them in blocks of 256 tokens, by products of zero-one matrices. -/
module

public import proofs.«01_k».proof.Proof.Core
public import Idealize.ShloMosaic.Lib.Pointwise

@[expose] public section

noncomputable section

namespace Cert.Moe

open Cert.KernelIdeal Cert.KernelIdeal.Gen
open Idealize.ShloMosaic
open scoped BigOperators

/-! ## Bits and counts -/

/-- A comparison's bit as a number. -/
theorem bit_value (b : BitVec 1) : FloatOps.sitofp (F := Ideal) .f32 (BitVec.setWidth 32 b) = ((if b = 1#1 then 1 else 0 : ℕ) : EReal) := by
  have h : b = 1#1 ∨ b = 0#1 := by revert b; decide
  rcases h with rfl | rfl
  · show ((((BitVec.setWidth 32 1#1).toInt : ℤ) : ℝ) : EReal) = _
    rw [show (BitVec.setWidth 32 1#1).toInt = 1 from by decide]; simp
  · show ((((BitVec.setWidth 32 0#1).toInt : ℤ) : ℝ) : EReal) = _
    rw [show (BitVec.setWidth 32 0#1).toInt = 0 from by decide]; simp

/-- A bit made from a truth value is one exactly when the value is true. -/
theorem of_bool_one : ∀ b : Bool, BitVec.ofBool b = 1#1 ↔ b = true := by decide

/-- The equality test gives one exactly for equal words. -/
theorem cmp_eq_one (a b : BitVec 32) : IntOp.cmpi .eq a b = 1#1 ↔ a = b := by
  refine (of_bool_one _).trans ?_
  exact beq_iff_eq

/-- The signed less-than test gives one exactly when it holds. -/
theorem cmp_slt_one (a b : BitVec 32) : IntOp.cmpi .slt a b = 1#1 ↔ a.slt b = true := by
  exact of_bool_one _

/-- Signed comparison of small naturals. -/
theorem slt_small {a b : ℕ} (ha : a < 2 ^ 31) (hb : b < 2 ^ 31) : (BitVec.ofNat 32 a).slt (BitVec.ofNat 32 b) = true ↔ a < b := by
  rw [BitVec.slt_iff_toInt_lt, BitVec.toInt_eq_toNat_of_lt (by rw [BitVec.toNat_ofNat]; omega),
    BitVec.toInt_eq_toNat_of_lt (by rw [BitVec.toNat_ofNat]; omega), BitVec.toNat_ofNat, BitVec.toNat_ofNat]
  omega

/-! ## The tokens -/

/-- The expert token `n` chose, as a word. -/
def expertAt (i : Vec Ideal S2048x1 .i32) (n : ℕ) : BitVec 32 := if h : n < 2048 then i (ix2 ⟨n, h⟩ 0) else 0

/-- A token's expert read from the argument. -/
theorem expertAt_fin (i : Vec Ideal S2048x1 .i32) (n : ℕ) (h : n < 2048) : i (ix2 ⟨n, h⟩ 0) = expertAt i n := by
  unfold expertAt; rw [dif_pos h]

/-- One where token `n` chose expert `x`, else zero. -/
def ind (i : Vec Ideal S2048x1 .i32) (n : ℕ) (x : Fin 64) : ℕ := if BitVec.ofNat 32 x.val = expertAt i n then 1 else 0

/-- How many of the first `n` tokens chose expert `x`. -/
def pre (i : Vec Ideal S2048x1 .i32) (n : ℕ) (x : Fin 64) : ℕ := ∑ k ∈ Finset.range n, ind i k x

/-- The kernel's rank of token `n`. -/
def rk (i : Vec Ideal S2048x1 .i32) (n : ℕ) : ℕ := ∑ x : Fin 64, pre i n x * ind i n x

/-- The test of an expert's number against a token's choice, as a number, is `ind`. -/
theorem hot_value (i : Vec Ideal S2048x1 .i32) (n : ℕ) (h : n < 2048) (x : Fin 64) :
    FloatOps.sitofp (F := Ideal) .f32 (BitVec.setWidth 32 (IntOp.cmpi .eq (BitVec.ofNat 32 x.val) (i (ix2 ⟨n, h⟩ 0)))) = ((ind i n x : ℕ) : EReal) := by
  rw [bit_value, expertAt_fin i n h]
  unfold ind
  simp only [cmp_eq_one]

/-- The strictly lower triangular matrix. -/
theorem tri_value (r k : Fin 256) : k0_pay2 (F := Ideal) (ix2 r k) = ((if k.val < r.val then 1 else 0 : ℕ) : EReal) := by
  pointwise [k0_pay2]
  rw [bit_value]
  simp only [cmp_slt_one, slt_small (show k.val < 2 ^ 31 by have := k.isLt; omega) (show r.val < 2 ^ 31 by have := r.isLt; omega)]

/-- The count over the first `o + 256` tokens from that over the first `o`. -/
theorem pre_step (i : Vec Ideal S2048x1 .i32) (o : ℕ) (x : Fin 64) :
    ((pre i o x : ℕ) : EReal) + ∑ k : Fin 256, ((ind i (o + k.val) x : ℕ) : EReal) = ((pre i (o + 256) x : ℕ) : EReal) := by
  unfold pre
  rw [Finset.sum_range_add, Nat.cast_add, ← Nat.cast_sum, ← Fin.sum_univ_eq_sum_range (fun k => ind i (o + k) x)]

/-- Row `r` of a block that starts at token `o`: the count before the block and the count within it. -/
theorem row_value (i : Vec Ideal S2048x1 .i32) (o : ℕ) (r : Fin 256) :
    (∑ x : Fin 64, ((∑ k : Fin 256, ((if k.val < r.val then 1 else 0 : ℕ) : EReal) * ((ind i (o + k.val) x : ℕ) : EReal)) + ((pre i o x : ℕ) : EReal))
      * ((ind i (o + r.val) x : ℕ) : EReal)) = ((rk i (o + r.val) : ℕ) : EReal) := by
  unfold rk
  rw [Nat.cast_sum]
  refine Finset.sum_congr rfl fun x _ => ?_
  have h : (∑ k : Fin 256, ((if k.val < r.val then 1 else 0 : ℕ) : EReal) * ((ind i (o + k.val) x : ℕ) : EReal))
      = ((∑ k ∈ Finset.range r.val, ind i (o + k) x : ℕ) : EReal) := by
    simp only [← EReal.natCast_mul, ← Nat.cast_sum]
    refine congrArg _ ?_
    rw [Fin.sum_univ_eq_sum_range (fun k => (if k < r.val then 1 else 0) * ind i (o + k) x) 256]
    simp only [ite_mul, one_mul, zero_mul]
    rw [← Finset.sum_filter]
    refine Finset.sum_congr ?_ fun _ _ => rfl
    ext k
    have := r.isLt
    simp only [Finset.mem_filter, Finset.mem_range]; omega
  rw [h, ← Nat.cast_add, ← EReal.natCast_mul]
  refine congrArg _ (congrArg (· * _) ?_)
  unfold pre
  rw [Finset.sum_range_add, add_comm]

/-- The recast of the expert numbers changes nothing. -/
theorem pay1_eq (i : Vec Ideal S2048x1 .i32) : k0_pay1 (F := Ideal) i = i := by
  funext j
  pointwise [k0_pay1]

/-! ## The blocks' zero-one matrices -/

/-- A block's zero-one matrix of the experts chosen. -/
theorem hot4 (i : Vec Ideal S2048x1 .i32) (r : Fin 256) (x : Fin 64) : k0_pay4 (F := Ideal) i (ix2 r x) = ((ind i (0 + r.val) x : ℕ) : EReal) := by
  have h : k0_pay4 (F := Ideal) i (ix2 r x) = ((ind i r.val x : ℕ) : EReal) := by
    pointwise [k0_pay4, pay1_eq]
    exact hot_value i r.val _ x
  rw [Nat.zero_add]
  exact h
/-- A block's zero-one matrix of the experts chosen. -/
theorem hot5 (i : Vec Ideal S2048x1 .i32) (r : Fin 256) (x : Fin 64) : k0_pay5 (F := Ideal) i (ix2 r x) = ((ind i (0 + r.val) x : ℕ) : EReal) := hot4 i r x
/-- A block's zero-one matrix of the experts chosen. -/
theorem hot8 (i : Vec Ideal S2048x1 .i32) (r : Fin 256) (x : Fin 64) : k0_pay8 (F := Ideal) i (ix2 r x) = ((ind i (256 + r.val) x : ℕ) : EReal) := by
  pointwise [k0_pay8]
  exact hot_value i (256 + r.val) _ x
/-- A block's zero-one matrix of the experts chosen. -/
theorem hot9 (i : Vec Ideal S2048x1 .i32) (r : Fin 256) (x : Fin 64) : k0_pay9 (F := Ideal) i (ix2 r x) = ((ind i (256 + r.val) x : ℕ) : EReal) := hot8 i r x
/-- A block's zero-one matrix of the experts chosen. -/
theorem hot12 (i : Vec Ideal S2048x1 .i32) (r : Fin 256) (x : Fin 64) : k0_pay12 (F := Ideal) i (ix2 r x) = ((ind i (512 + r.val) x : ℕ) : EReal) := by
  pointwise [k0_pay12]
  exact hot_value i (512 + r.val) _ x
/-- A block's zero-one matrix of the experts chosen. -/
theorem hot13 (i : Vec Ideal S2048x1 .i32) (r : Fin 256) (x : Fin 64) : k0_pay13 (F := Ideal) i (ix2 r x) = ((ind i (512 + r.val) x : ℕ) : EReal) := hot12 i r x
/-- A block's zero-one matrix of the experts chosen. -/
theorem hot16 (i : Vec Ideal S2048x1 .i32) (r : Fin 256) (x : Fin 64) : k0_pay16 (F := Ideal) i (ix2 r x) = ((ind i (768 + r.val) x : ℕ) : EReal) := by
  pointwise [k0_pay16]
  exact hot_value i (768 + r.val) _ x
/-- A block's zero-one matrix of the experts chosen. -/
theorem hot17 (i : Vec Ideal S2048x1 .i32) (r : Fin 256) (x : Fin 64) : k0_pay17 (F := Ideal) i (ix2 r x) = ((ind i (768 + r.val) x : ℕ) : EReal) := hot16 i r x
/-- A block's zero-one matrix of the experts chosen. -/
theorem hot20 (i : Vec Ideal S2048x1 .i32) (r : Fin 256) (x : Fin 64) : k0_pay20 (F := Ideal) i (ix2 r x) = ((ind i (1024 + r.val) x : ℕ) : EReal) := by
  pointwise [k0_pay20]
  exact hot_value i (1024 + r.val) _ x
/-- A block's zero-one matrix of the experts chosen. -/
theorem hot21 (i : Vec Ideal S2048x1 .i32) (r : Fin 256) (x : Fin 64) : k0_pay21 (F := Ideal) i (ix2 r x) = ((ind i (1024 + r.val) x : ℕ) : EReal) := hot20 i r x
/-- A block's zero-one matrix of the experts chosen. -/
theorem hot24 (i : Vec Ideal S2048x1 .i32) (r : Fin 256) (x : Fin 64) : k0_pay24 (F := Ideal) i (ix2 r x) = ((ind i (1280 + r.val) x : ℕ) : EReal) := by
  pointwise [k0_pay24]
  exact hot_value i (1280 + r.val) _ x
/-- A block's zero-one matrix of the experts chosen. -/
theorem hot25 (i : Vec Ideal S2048x1 .i32) (r : Fin 256) (x : Fin 64) : k0_pay25 (F := Ideal) i (ix2 r x) = ((ind i (1280 + r.val) x : ℕ) : EReal) := hot24 i r x
/-- A block's zero-one matrix of the experts chosen. -/
theorem hot28 (i : Vec Ideal S2048x1 .i32) (r : Fin 256) (x : Fin 64) : k0_pay28 (F := Ideal) i (ix2 r x) = ((ind i (1536 + r.val) x : ℕ) : EReal) := by
  pointwise [k0_pay28]
  exact hot_value i (1536 + r.val) _ x
/-- A block's zero-one matrix of the experts chosen. -/
theorem hot29 (i : Vec Ideal S2048x1 .i32) (r : Fin 256) (x : Fin 64) : k0_pay29 (F := Ideal) i (ix2 r x) = ((ind i (1536 + r.val) x : ℕ) : EReal) := hot28 i r x

/-! ## The running counts -/

/-- Before the first block every count is zero. -/
theorem cnt3 (i : Vec Ideal S2048x1 .i32) (x : Fin 64) : k0_pay3 (F := Ideal) (ix2 0 x) = ((pre i 0 x : ℕ) : EReal) := by
  pointwise [k0_pay3]
  simp [pre]
/-- The counts over all blocks up to this one. -/
theorem cnt7 (i : Vec Ideal S2048x1 .i32) (x : Fin 64) : k0_pay7 (k0_pay3 (F := Ideal)) (k0_pay5 (F := Ideal) i) (ix2 0 x) = ((pre i 256 x : ℕ) : EReal) := by
  pointwise [k0_pay7]
  simp only [cnt3 i, hot5 i]
  exact pre_step i 0 x
/-- The counts over all blocks up to this one. -/
theorem cnt11 (i : Vec Ideal S2048x1 .i32) (x : Fin 64) : k0_pay11 i (k0_pay3 (F := Ideal)) (k0_pay5 (F := Ideal) i) (ix2 0 x) = ((pre i 512 x : ℕ) : EReal) := by
  pointwise [k0_pay11]
  simp only [cnt7 i, hot9 i]
  exact pre_step i 256 x
/-- The counts over all blocks up to this one. -/
theorem cnt15 (i : Vec Ideal S2048x1 .i32) (x : Fin 64) : k0_pay15 i (k0_pay3 (F := Ideal)) (k0_pay5 (F := Ideal) i) (ix2 0 x) = ((pre i 768 x : ℕ) : EReal) := by
  pointwise [k0_pay15]
  simp only [cnt11 i, hot13 i]
  exact pre_step i 512 x
/-- The counts over all blocks up to this one. -/
theorem cnt19 (i : Vec Ideal S2048x1 .i32) (x : Fin 64) : k0_pay19 (k0_pay15 i (k0_pay3 (F := Ideal)) (k0_pay5 (F := Ideal) i)) (k0_pay17 (F := Ideal) i) (ix2 0 x) = ((pre i 1024 x : ℕ) : EReal) := by
  pointwise [k0_pay19]
  simp only [cnt15 i, hot17 i]
  exact pre_step i 768 x
/-- The counts over all blocks up to this one. -/
theorem cnt23 (i : Vec Ideal S2048x1 .i32) (x : Fin 64) : k0_pay23 i (k0_pay15 i (k0_pay3 (F := Ideal)) (k0_pay5 (F := Ideal) i)) (k0_pay17 (F := Ideal) i) (ix2 0 x) = ((pre i 1280 x : ℕ) : EReal) := by
  pointwise [k0_pay23]
  simp only [cnt19 i, hot21 i]
  exact pre_step i 1024 x
/-- The counts over all blocks up to this one. -/
theorem cnt27 (i : Vec Ideal S2048x1 .i32) (x : Fin 64) : k0_pay27 i (k0_pay15 i (k0_pay3 (F := Ideal)) (k0_pay5 (F := Ideal) i)) (k0_pay17 (F := Ideal) i) (ix2 0 x) = ((pre i 1536 x : ℕ) : EReal) := by
  pointwise [k0_pay27]
  simp only [cnt23 i, hot25 i]
  exact pre_step i 1280 x

/-! ## The blocks' ranks -/

/-- The ranks of block 0. -/
theorem rank6 (i : Vec Ideal S2048x1 .i32) (r : Fin 256) : k0_pay6 (F := Ideal) i (ix2 r 0) = ((rk i (0 + r.val) : ℕ) : EReal) := by
  pointwise [k0_pay6]
  simp only [tri_value, hot4, hot5, cnt3 i]
  refine (row_value i 0 r).trans ?_
  rw [Nat.zero_add]
/-- The ranks of one block. -/
theorem rank10 (i : Vec Ideal S2048x1 .i32) (r : Fin 256) : k0_pay10 i (k0_pay2 (F := Ideal)) (k0_pay3 (F := Ideal)) (k0_pay5 (F := Ideal) i) (ix2 r 0) = ((rk i (256 + r.val) : ℕ) : EReal) := by
  pointwise [k0_pay10]
  simp only [tri_value, hot8, hot9, cnt7 i]
  exact row_value i 256 r
/-- The ranks of one block. -/
theorem rank14 (i : Vec Ideal S2048x1 .i32) (r : Fin 256) : k0_pay14 i (k0_pay2 (F := Ideal)) (k0_pay3 (F := Ideal)) (k0_pay5 (F := Ideal) i) (ix2 r 0) = ((rk i (512 + r.val) : ℕ) : EReal) := by
  pointwise [k0_pay14]
  simp only [tri_value, hot12, hot13, cnt11 i]
  exact row_value i 512 r
/-- The ranks of one block. -/
theorem rank18 (i : Vec Ideal S2048x1 .i32) (r : Fin 256) : k0_pay18 i (k0_pay2 (F := Ideal)) (k0_pay3 (F := Ideal)) (k0_pay5 (F := Ideal) i) (ix2 r 0) = ((rk i (768 + r.val) : ℕ) : EReal) := by
  pointwise [k0_pay18]
  simp only [tri_value, hot16, hot17, cnt15 i]
  exact row_value i 768 r
/-- The ranks of one block. -/
theorem rank22 (i : Vec Ideal S2048x1 .i32) (r : Fin 256) : k0_pay22 i (k0_pay2 (F := Ideal)) (k0_pay15 i (k0_pay3 (F := Ideal)) (k0_pay5 (F := Ideal) i)) (k0_pay17 (F := Ideal) i) (ix2 r 0) = ((rk i (1024 + r.val) : ℕ) : EReal) := by
  pointwise [k0_pay22]
  simp only [tri_value, hot20, hot21, cnt19 i]
  exact row_value i 1024 r
/-- The ranks of one block. -/
theorem rank26 (i : Vec Ideal S2048x1 .i32) (r : Fin 256) : k0_pay26 i (k0_pay2 (F := Ideal)) (k0_pay15 i (k0_pay3 (F := Ideal)) (k0_pay5 (F := Ideal) i)) (k0_pay17 (F := Ideal) i) (ix2 r 0) = ((rk i (1280 + r.val) : ℕ) : EReal) := by
  pointwise [k0_pay26]
  simp only [tri_value, hot24, hot25, cnt23 i]
  exact row_value i 1280 r
/-- The ranks of one block. -/
theorem rank30 (i : Vec Ideal S2048x1 .i32) (r : Fin 256) : k0_pay30 i (k0_pay2 (F := Ideal)) (k0_pay15 i (k0_pay3 (F := Ideal)) (k0_pay5 (F := Ideal) i)) (k0_pay17 (F := Ideal) i) (ix2 r 0) = ((rk i (1536 + r.val) : ℕ) : EReal) := by
  pointwise [k0_pay30]
  simp only [tri_value, hot28, hot29, cnt27 i]
  exact row_value i 1536 r

/-! ## The whole column -/

/-- `ind` is at most one. -/
theorem ind_le_one (i : Vec Ideal S2048x1 .i32) (n : ℕ) (x : Fin 64) : ind i n x ≤ 1 := by unfold ind; split <;> omega
/-- At most `n` of the first `n` tokens chose an expert. -/
theorem pre_le (i : Vec Ideal S2048x1 .i32) (n : ℕ) (x : Fin 64) : pre i n x ≤ n := by
  unfold pre
  refine (Finset.sum_le_sum fun k _ => ind_le_one i k x).trans ?_
  rw [Finset.sum_const, Finset.card_range, smul_eq_mul, mul_one]

/-- A rank read at an expert a token chose. -/
theorem rk_of_expert (i : Vec Ideal S2048x1 .i32) (n : ℕ) (x : Fin 64) (h : expertAt i n = BitVec.ofNat 32 x.val) : rk i n = pre i n x := by
  unfold rk
  rw [Finset.sum_eq_single x]
  · unfold ind; rw [if_pos h.symm, mul_one]
  · intro y _ hy
    unfold ind
    rw [if_neg, mul_zero]
    intro e
    rw [h] at e
    have e' := congrArg BitVec.toNat e
    rw [BitVec.toNat_ofNat, BitVec.toNat_ofNat] at e'
    exact hy (Fin.ext (by have := x.isLt; have := y.isLt; omega))
  · intro hx; exact absurd (Finset.mem_univ x) hx

/-- A token that chose no expert has rank zero. -/
theorem rk_of_none (i : Vec Ideal S2048x1 .i32) (n : ℕ) (h : ∀ x : Fin 64, expertAt i n ≠ BitVec.ofNat 32 x.val) : rk i n = 0 := by
  unfold rk
  refine Finset.sum_eq_zero fun x _ => ?_
  unfold ind
  rw [if_neg (fun e => h x e.symm), mul_zero]

/-- A rank is at most the number of earlier tokens. -/
theorem rk_le (i : Vec Ideal S2048x1 .i32) (n : ℕ) : rk i n ≤ n := by
  by_cases h : ∃ x : Fin 64, expertAt i n = BitVec.ofNat 32 x.val
  · obtain ⟨x, hx⟩ := h
    rw [rk_of_expert i n x hx]; exact pre_le i n x
  · rw [rk_of_none i n (fun x hx => h ⟨x, hx⟩)]; exact Nat.zero_le _

/-- A small natural converted to a word. -/
theorem toWord_nat (n : ℕ) (h : n < 2 ^ 31) : FloatOps.fptosi (F := Ideal) (φ := .f32) 32 ((n : ℕ) : EReal) = BitVec.ofNat 32 n := by
  show BitVec.ofInt 32 (Ideal.toIntClamped (-(2 ^ (32 - 1) : ℕ)) ((2 ^ (32 - 1) : ℕ) - 1) ((n : ℕ) : EReal)) = _
  rw [← EReal.coe_natCast, Ideal.toIntClamped_coe, if_pos (Nat.cast_nonneg n), Int.floor_natCast,
    show max (-((2 ^ (32 - 1) : ℕ) : ℤ)) (min (((2 ^ (32 - 1) : ℕ) : ℤ) - 1) (n : ℤ)) = (n : ℤ) from by norm_num; omega]
  exact BitVec.ofInt_natCast 32 n

/-- The kernel's column of ranks, as words. -/
theorem rank_value (i : Vec Ideal S2048x1 .i32) (t : Fin 2048) : rankv i (ix2 t 0) = BitVec.ofNat 32 (rk i t.val) := by
  have hb : rk i t.val < 2 ^ 31 := lt_of_le_of_lt (rk_le i t.val) (by have := t.isLt; omega)
  have ht := t.isLt
  have key : ∀ e : EReal, e = ((rk i t.val : ℕ) : EReal) → FloatOps.fptosi (F := Ideal) (φ := .f32) 32 e = BitVec.ofNat 32 (rk i t.val) := by
    rintro _ rfl; exact toWord_nat _ hb
  unfold rankv
  rw [pay1_eq]
  pointwise [k0_pay31]
  refine key _ ?_
  split
  · refine (rank6 i _).trans (congrArg (fun n : ℕ => ((rk i n : ℕ) : EReal)) ?_)
    dsimp only
    omega
  split
  · refine (rank10 i _).trans (congrArg (fun n : ℕ => ((rk i n : ℕ) : EReal)) ?_)
    dsimp only
    omega
  split
  · refine (rank14 i _).trans (congrArg (fun n : ℕ => ((rk i n : ℕ) : EReal)) ?_)
    dsimp only
    omega
  split
  · refine (rank18 i _).trans (congrArg (fun n : ℕ => ((rk i n : ℕ) : EReal)) ?_)
    dsimp only
    omega
  split
  · refine (rank22 i _).trans (congrArg (fun n : ℕ => ((rk i n : ℕ) : EReal)) ?_)
    dsimp only
    omega
  split
  · refine (rank26 i _).trans (congrArg (fun n : ℕ => ((rk i n : ℕ) : EReal)) ?_)
    dsimp only
    omega
  split
  · refine (rank30 i _).trans (congrArg (fun n : ℕ => ((rk i n : ℕ) : EReal)) ?_)
    dsimp only
    omega
  have h7 : t.val - 256 - 256 - 256 - 256 - 256 - 256 - 256 = t.val - 1792 := by omega
  refine Eq.trans ?_ ((row_value i 1792 ⟨t.val - 1792, by omega⟩).trans (congrArg (fun n : ℕ => ((rk i n : ℕ) : EReal)) (by dsimp only; omega)))
  refine Finset.sum_congr rfl fun x _ => ?_
  have hp : k0_pay27 i (k0_pay15 i (k0_pay3 (F := Ideal)) (k0_pay5 (F := Ideal) i)) (k0_pay17 (F := Ideal) i) (ix2 0 x)
      + ∑ k : Fin 256, k0_pay29 (F := Ideal) i (ix2 k x) = ((pre i 1792 x : ℕ) : EReal) := by
    simp only [cnt27 i, hot29 i]
    exact pre_step i 1536 x
  rw [hp]
  simp only [h7, tri_value]
  have e : ∀ k : Fin 256, FloatOps.sitofp (F := Ideal) .f32 (BitVec.setWidth 32 (IntOp.cmpi .eq (BitVec.ofNat 32 x.val)
      (i (ix2 ⟨1792 + k.val, by have := k.isLt; omega⟩ 0)))) = ((ind i (1792 + k.val) x : ℕ) : EReal) := fun k => hot_value i (1792 + k.val) _ x
  have e' : FloatOps.sitofp (F := Ideal) .f32 (BitVec.setWidth 32 (IntOp.cmpi .eq (BitVec.ofNat 32 x.val)
      (i (ix2 ⟨1792 + (t.val - 1792), by omega⟩ 0)))) = ((ind i (1792 + (t.val - 1792)) x : ℕ) : EReal) := hot_value i (1792 + (t.val - 1792)) _ x
  simp only [e, e']

end Cert.Moe

end
-- ==== Proof.Slots.lean ====
/- What the kernel's products hold at an index: the rows a device gathers for its experts, their products with the
   experts' weights, and the sum that gives the result. -/
module

public import proofs.«01_k».proof.Proof.Ranks

@[expose] public section

noncomputable section

namespace Cert.Moe

open Cert.KernelIdeal Cert.KernelIdeal.Gen
open Idealize.ShloMosaic
open scoped BigOperators

/-! ## The slot of a token -/

/-- One where token `t` is served by device `o` in row `s` of that device's slot, else zero. -/
def hit (i : Vec Ideal S2048x1 .i32) (o t s : ℕ) : ℕ :=
  if expertAt i t = BitVec.ofNat 32 (8 * o + s / 32) ∧ rk i t < 25 ∧ rk i t = s % 32 then 1 else 0

/-- The bit of a token is one exactly when its rank is below the capacity. -/
theorem keep_value (i : Vec Ideal S2048x1 .i32) (t : Fin 2048) : keepv i (ix2 t 0) = 1#1 ↔ rk i t.val < 25 := by
  show IntOp.cmpi .slt (rankv i (ix2 t 0)) 25#32 = 1#1 ↔ _
  rw [rank_value, cmp_slt_one, show (25#32) = BitVec.ofNat 32 25 from rfl,
    slt_small (lt_of_le_of_lt (rk_le i t.val) (by have := t.isLt; omega)) (by norm_num)]

/-- The signed at-least test gives one exactly when it holds. -/
theorem cmp_sge_one (a b : BitVec 32) : IntOp.cmpi .sge a b = 1#1 ↔ b.sle a = true := of_bool_one _

/-- The conjunction of two bits is one exactly when both are. -/
theorem and_one : ∀ a b : BitVec 1, IntOp.andi a b = 1#1 ↔ a = 1#1 ∧ b = 1#1 := by decide

/-- A selection by a bit. -/
theorem select_val (b : BitVec 1) (x y : BitVec 32) : Scalar.select b x y = if b = 1#1 then x else y := rfl

/-- A word read as signed lies in `[0, 8)` when it does as a natural. -/
theorem in_range (d : BitVec 32) : (BitVec.sle 0#32 d = true ∧ d.slt 8#32 = true) ↔ d.toNat < 8 := by
  rw [BitVec.sle_iff_toInt_le, BitVec.slt_iff_toInt_lt, show (0#32).toInt = 0 from by decide, show (8#32).toInt = 8 from by decide,
    BitVec.toInt_eq_toNat_cond]
  have := d.isLt
  split <;> omega

/-- The row number a token is given on device `o`, compared with `s`. -/
theorem slot_iff (a : BitVec 32) (o s n : ℕ) (ho : o < 8) (hs : s < 256) (hn : n < 2 ^ 31) (k : BitVec 1) (hk : k = 1#1 ↔ n < 25) :
    BitVec.ofNat 32 s = Scalar.select (IntOp.andi (IntOp.andi (IntOp.cmpi .sge (IntOp.subi a (Scalar.muli (BitVec.ofNat 32 o) 8#32)) 0#32)
        (IntOp.cmpi .slt (IntOp.subi a (Scalar.muli (BitVec.ofNat 32 o) 8#32)) 8#32)) k)
      (IntOp.addi (IntOp.muli (IntOp.subi a (Scalar.muli (BitVec.ofNat 32 o) 8#32)) 32#32) (BitVec.ofNat 32 n)) 4294967295#32
    ↔ a = BitVec.ofNat 32 (8 * o + s / 32) ∧ n < 25 ∧ n = s % 32 := by
  rw [select_val]
  simp only [and_one, cmp_sge_one, cmp_slt_one, in_range, hk]
  have hd : (IntOp.subi a (Scalar.muli (BitVec.ofNat 32 o) 8#32)).toNat = (2 ^ 32 - 8 * o + a.toNat) % 2 ^ 32 := by
    show (a - BitVec.ofNat 32 o * 8#32).toNat = _
    rw [BitVec.toNat_sub, BitVec.toNat_mul, BitVec.toNat_ofNat, BitVec.toNat_ofNat]
    have : o % 2 ^ 32 * (8 % 2 ^ 32) % 2 ^ 32 = 8 * o := by omega
    rw [this]
  have hm : (IntOp.addi (IntOp.muli (IntOp.subi a (Scalar.muli (BitVec.ofNat 32 o) 8#32)) 32#32) (BitVec.ofNat 32 n)).toNat
      = ((2 ^ 32 - 8 * o + a.toNat) % 2 ^ 32 * 32 % 2 ^ 32 + n) % 2 ^ 32 := by
    show (IntOp.subi a (Scalar.muli (BitVec.ofNat 32 o) 8#32) * 32#32 + BitVec.ofNat 32 n).toNat = _
    rw [BitVec.toNat_add, BitVec.toNat_mul, hd, BitVec.toNat_ofNat, BitVec.toNat_ofNat]
    rw [Nat.mod_eq_of_lt (show n < 2 ^ 32 by omega)]
  have hl := a.isLt
  rw [hd]
  split
  · rename_i h
    rw [← BitVec.toNat_inj, hm, ← BitVec.toNat_inj, BitVec.toNat_ofNat, BitVec.toNat_ofNat]
    omega
  · rename_i h
    rw [← BitVec.toNat_inj, ← BitVec.toNat_inj, BitVec.toNat_ofNat, BitVec.toNat_ofNat, BitVec.toNat_ofNat]
    omega

/-- The kernel's zero-one matrix of device `o` at a token and a row. -/
theorem hit_value (i : Vec Ideal S2048x1 .i32) (t : Fin 2048) (s : Fin 256) (o : Fin 8) (w : BitVec 32) (hw : w = BitVec.ofNat 32 o.val) :
    FloatOps.sitofp (F := Ideal) .f32 (BitVec.setWidth 32 (IntOp.cmpi .eq (BitVec.ofNat 32 s.val)
      (Scalar.select (IntOp.andi (IntOp.andi (IntOp.cmpi .sge (IntOp.subi (i (ix2 t 0)) (Scalar.muli w 8#32)) 0#32)
          (IntOp.cmpi .slt (IntOp.subi (i (ix2 t 0)) (Scalar.muli w 8#32)) 8#32)) (keepv i (ix2 t 0)))
        (IntOp.addi (IntOp.muli (IntOp.subi (i (ix2 t 0)) (Scalar.muli w 8#32)) 32#32) (rankv i (ix2 t 0))) 4294967295#32)))
      = ((hit i o.val t.val s.val : ℕ) : EReal) := by
  subst hw
  rw [bit_value]
  refine congrArg (fun n : ℕ => (n : EReal)) ?_
  unfold hit
  refine if_congr ?_ rfl rfl
  rw [cmp_eq_one, rank_value,
    slot_iff _ o.val s.val (rk i t.val) o.isLt s.isLt (lt_of_le_of_lt (rk_le i t.val) (by have := t.isLt; omega)) _ (keep_value i t),
    ← expertAt_fin i t.val t.isLt]

/-! ## The device numbers -/

/-- A device's number as a word. -/
theorem word_org (c : Dev nD) : word c = BitVec.ofNat 32 c.val := by revert c; decide
/-- The device numbers that the eight sums use: each is the origin of the slot it reads. -/
theorem word0 (c : Dev nD) : word c = BitVec.ofNat 32 (org c 0).val := by revert c; decide
theorem word1 (c : Dev nD) : Scalar.remsi (Scalar.subi (Scalar.subi (Scalar.addi (word c) 8#32) 0#32) 1#32) 8#32 = BitVec.ofNat 32 (org c 1).val := by revert c; decide
theorem word2 (c : Dev nD) : Scalar.remsi (Scalar.subi (Scalar.subi (Scalar.addi (word c) 8#32) 1#32) 1#32) 8#32 = BitVec.ofNat 32 (org c 2).val := by revert c; decide
theorem word3 (c : Dev nD) : Scalar.remsi (Scalar.subi (Scalar.subi (Scalar.addi (word c) 8#32) 2#32) 1#32) 8#32 = BitVec.ofNat 32 (org c 3).val := by revert c; decide
theorem word4 (c : Dev nD) : Scalar.remsi (Scalar.subi (Scalar.subi (Scalar.addi (word c) 8#32) 3#32) 1#32) 8#32 = BitVec.ofNat 32 (org c 4).val := by revert c; decide
theorem word5 (c : Dev nD) : Scalar.remsi (Scalar.addi (Scalar.addi (word c) 0#32) 1#32) 8#32 = BitVec.ofNat 32 (org c 5).val := by revert c; decide
theorem word6 (c : Dev nD) : Scalar.remsi (Scalar.addi (Scalar.addi (word c) 1#32) 1#32) 8#32 = BitVec.ofNat 32 (org c 6).val := by revert c; decide
theorem word7 (c : Dev nD) : Scalar.remsi (Scalar.addi (Scalar.addi (word c) 2#32) 1#32) 8#32 = BitVec.ofNat 32 (org c 7).val := by revert c; decide

/-! ## The gathered rows and their products -/

/-- Row `s` of what device `o` gathers. -/
theorem gathered (i : Vec Ideal S2048x1 .i32) (x : Vec Ideal S2048x512 .bf16) (o : Dev nD) (s : Fin 256) (d : Fin 512) :
    xdv (word o) i x (ix2 s d) = ∑ t : Fin 2048, ((hit i o.val t.val s.val : ℕ) : EReal) * x (ix2 t d) := by
  unfold xdv
  rw [pay1_eq]
  pointwise [k0_pay33]
  refine Finset.sum_congr rfl fun t _ => congrArg (· * x (ix2 t d)) ?_
  have h := hit_value i t s o (word o) (word_org o)
  unfold keepv rankv at h
  rw [pay1_eq] at h
  exact h

/-- The weights of one expert. -/
theorem wBlk_value (W : Vec Ideal S8x512x1024 .bf16) (k : Fin 8) (d : Fin 512) (f : Fin 1024) : wBlk W k (ix3 0 d f) = W (ix3 k d f) := by
  refine congrArg W (funext fun a => Fin.ext ?_)
  fin_cases a
  · show k.val + 0 = k.val
    omega
  · show 0 + 1 * d.val = d.val
    omega
  · show 0 + 1 * f.val = f.val
    omega

/-- Row `r` of the product with expert `e`'s weights. -/
theorem piece_value (w : BitVec 32) (i : Vec Ideal S2048x1 .i32) (x : Vec Ideal S2048x512 .bf16) (W : Vec Ideal S8x512x1024 .bf16)
    (e : Fin 8) (r : Fin 32) (f : Fin 1024) :
    piece w i x W e (ix3 0 r f) = ∑ d : Fin 512, xdv w i x (ix2 ⟨32 * e.val + r.val, by have := e.isLt; have := r.isLt; omega⟩ d) * W (ix3 e d f) := by
  have h0 : ∀ d : Fin 512, xd0v w i x (ix2 r d) = xdv w i x (ix2 ⟨r.val, by have := r.isLt; omega⟩ d) := fun d => by
    refine congrArg (xdv w i x) (funext fun a => Fin.ext ?_)
    fin_cases a
    · show 0 + r.val = r.val
      omega
    · show 0 + d.val = d.val
      omega
  fin_cases e
  · show k0_pay35 (xd0v w i x) (wBlk W 0) (ix3 0 r f) = _
    pointwise [k0_pay35]
    exact Finset.sum_congr rfl fun d _ => congrArg₂ (· * ·) (h0 d) (wBlk_value W 0 d f)
  · show k0_pay36 (xdv w i x) (wBlk W 1) (ix3 0 r f) = _
    pointwise [k0_pay36]
    exact Finset.sum_congr rfl fun d _ => congrArg₂ (· * ·) rfl (wBlk_value W 1 d f)
  · show k0_pay37 (xdv w i x) (wBlk W 2) (ix3 0 r f) = _
    pointwise [k0_pay37]
    exact Finset.sum_congr rfl fun d _ => congrArg₂ (· * ·) rfl (wBlk_value W 2 d f)
  · show k0_pay38 (xdv w i x) (wBlk W 3) (ix3 0 r f) = _
    pointwise [k0_pay38]
    exact Finset.sum_congr rfl fun d _ => congrArg₂ (· * ·) rfl (wBlk_value W 3 d f)
  · show k0_pay39 (xdv w i x) (wBlk W 4) (ix3 0 r f) = _
    pointwise [k0_pay39]
    exact Finset.sum_congr rfl fun d _ => congrArg₂ (· * ·) rfl (wBlk_value W 4 d f)
  · show k0_pay40 (xdv w i x) (wBlk W 5) (ix3 0 r f) = _
    pointwise [k0_pay40]
    exact Finset.sum_congr rfl fun d _ => congrArg₂ (· * ·) rfl (wBlk_value W 5 d f)
  · show k0_pay41 (xdv w i x) (wBlk W 6) (ix3 0 r f) = _
    pointwise [k0_pay41]
    exact Finset.sum_congr rfl fun d _ => congrArg₂ (· * ·) rfl (wBlk_value W 6 d f)
  · show k0_pay43 (k0_pay42 (xdv w i x) (wBlk W 7)) (ix3 0 r f) = _
    pointwise [k0_pay43, k0_pay42]
    exact Finset.sum_congr rfl fun d _ => congrArg₂ (· * ·) rfl (wBlk_value W 7 d f)

/-- Row `s` of the products of device `o`. -/
def prod (i : Vec Ideal S2048x1 .i32) (x : Vec Ideal S2048x512 .bf16) (W : Vec Ideal S8x512x1024 .bf16) (o : Fin 8) (s : Fin 256) (f : Fin 1024) : EReal :=
  ∑ d : Fin 512, (∑ t : Fin 2048, ((hit i o.val t.val s.val : ℕ) : EReal) * x (ix2 t d)) * W (ix3 ⟨s.val / 32, by have := s.isLt; omega⟩ d f)

variable (m : (ℓ : Loc nD τ sig) → Buf (Elt Ideal) ℓ)

/-- A slot holds its origin's products. -/
theorem slot_value (c : Dev nD) (k : Fin 8) (s : Fin 256) (f : Fin 1024) :
    slotBlk m c k (ix3 0 s f) = prod (istg m (org c k)) (xstg m (org c k)) (wstg m (org c k)) (org c k) s f := by
  have h1 : slotBlk m c k (ix3 0 s f) = commF m c (ix3 k s f) := by
    refine congrArg (commF m c) (funext fun a => Fin.ext ?_)
    fin_cases a
    · show k.val + 0 = k.val
      omega
    · show 0 + 1 * s.val = s.val
      omega
    · show 0 + 1 * f.val = f.val
      omega
  have h2 : commF m c (ix3 k s f) = piece (word (org c k)) (istg m (org c k)) (xstg m (org c k)) (wstg m (org c k))
      ⟨s.val / 32, by have := s.isLt; omega⟩ (ix3 0 ⟨s.val % 32, Nat.mod_lt _ (by decide)⟩ f) := by
    refine congrArg (pieceAt m (org c k) _) (funext fun a => Fin.ext ?_)
    fin_cases a <;> rfl
  rw [h1, h2, piece_value]
  have hs : (⟨32 * (s.val / 32) + s.val % 32, by have := s.isLt; omega⟩ : Fin 256) = s := Fin.ext (Nat.div_add_mod s.val 32)
  unfold prod
  refine Finset.sum_congr rfl fun d _ => congrArg (· * _) ?_
  rw [← gathered]
  exact congrArg (fun s : Fin 256 => xdv (word (org c k)) (istg m (org c k)) (xstg m (org c k)) (ix2 s d)) hs

/-! ## The result -/

/-- What the rows from device `o` add to token `t`. -/
def share (i : Vec Ideal S2048x1 .i32) (Y : Fin 256 → EReal) (o : Fin 8) (t : Fin 2048) : EReal :=
  ∑ s : Fin 256, ((hit i o.val t.val s.val : ℕ) : EReal) * Y s

/-- A product with a device's zero-one matrix is that device's share. -/
theorem share_of_hits (i : Vec Ideal S2048x1 .i32) (v : Vec Ideal S1x256x1024 .bf16) (t : Fin 2048) (f : Fin 1024) (o : Fin 8) (w : BitVec 32)
    (hw : w = BitVec.ofNat 32 o.val) :
    (∑ s : Fin 256, FloatOps.sitofp (F := Ideal) .f32 (BitVec.setWidth 32 (IntOp.cmpi .eq (BitVec.ofNat 32 s.val)
      (Scalar.select (IntOp.andi (IntOp.andi (IntOp.cmpi .sge (IntOp.subi (i (ix2 t 0)) (Scalar.muli w 8#32)) 0#32)
          (IntOp.cmpi .slt (IntOp.subi (i (ix2 t 0)) (Scalar.muli w 8#32)) 8#32)) (keepv i (ix2 t 0)))
        (IntOp.addi (IntOp.muli (IntOp.subi (i (ix2 t 0)) (Scalar.muli w 8#32)) 32#32) (rankv i (ix2 t 0))) 4294967295#32)))
      * v (ix3 0 s f)) = share i (fun s => v (ix3 0 s f)) o t :=
  Finset.sum_congr rfl fun s _ => congrArg (· * _) (hit_value i t s o w hw)

/-- The result after one more slot: that slot's origin adds its share. -/
theorem out0_value (c : Dev nD) (t : Fin 2048) (f : Fin 1024) : out0 m c (ix2 t f) = share (istg m c) (fun s => slotBlk m c 0 (ix3 0 s f)) (org c 0) t := by
  unfold out0
  rw [pay1_eq]
  pointwise [k0_pay46, k0_pay44, k0_pay45, colIx]
  exact share_of_hits (istg m c) (slotBlk m c 0) t f (org c 0) _ (word0 c)
/-- The result after one more slot: that slot's origin adds its share. -/
theorem out1_value (c : Dev nD) (t : Fin 2048) (f : Fin 1024) : out1 m c (ix2 t f) = out0 m c (ix2 t f) + share (istg m c) (fun s => slotBlk m c 1 (ix3 0 s f)) (org c 1) t := by
  unfold out1
  rw [pay1_eq]
  pointwise [k0_pay50, k0_pay47, k0_pay48, k0_pay49, colIx]
  exact congrArg (_ + ·) (share_of_hits (istg m c) (slotBlk m c 1) t f (org c 1) _ (word1 c))
/-- The result after one more slot: that slot's origin adds its share. -/
theorem out2_value (c : Dev nD) (t : Fin 2048) (f : Fin 1024) : out2 m c (ix2 t f) = out1 m c (ix2 t f) + share (istg m c) (fun s => slotBlk m c 5 (ix3 0 s f)) (org c 5) t := by
  unfold out2
  rw [pay1_eq]
  pointwise [k0_pay52, k0_pay51, colIx]
  exact congrArg (_ + ·) (share_of_hits (istg m c) (slotBlk m c 5) t f (org c 5) _ (word5 c))
/-- The result after one more slot: that slot's origin adds its share. -/
theorem out3_value (c : Dev nD) (t : Fin 2048) (f : Fin 1024) : out3 m c (ix2 t f) = out2 m c (ix2 t f) + share (istg m c) (fun s => slotBlk m c 2 (ix3 0 s f)) (org c 2) t := by
  unfold out3
  rw [pay1_eq]
  pointwise [k0_pay56, k0_pay55, k0_pay54, k0_pay53, colIx]
  exact congrArg (_ + ·) (share_of_hits (istg m c) (slotBlk m c 2) t f (org c 2) _ (word2 c))
/-- The result after one more slot: that slot's origin adds its share. -/
theorem out4_value (c : Dev nD) (t : Fin 2048) (f : Fin 1024) : out4 m c (ix2 t f) = out3 m c (ix2 t f) + share (istg m c) (fun s => slotBlk m c 6 (ix3 0 s f)) (org c 6) t := by
  unfold out4
  rw [pay1_eq]
  pointwise [k0_pay59, k0_pay57, k0_pay58, colIx]
  exact congrArg (_ + ·) (share_of_hits (istg m c) (slotBlk m c 6) t f (org c 6) _ (word6 c))
/-- The result after one more slot: that slot's origin adds its share. -/
theorem out5_value (c : Dev nD) (t : Fin 2048) (f : Fin 1024) : out5 m c (ix2 t f) = out4 m c (ix2 t f) + share (istg m c) (fun s => slotBlk m c 3 (ix3 0 s f)) (org c 3) t := by
  unfold out5
  rw [pay1_eq]
  pointwise [k0_pay60, colIx]
  exact congrArg (_ + ·) (share_of_hits (istg m c) (slotBlk m c 3) t f (org c 3) _ (word3 c))
/-- The result after one more slot: that slot's origin adds its share. -/
theorem out6_value (c : Dev nD) (t : Fin 2048) (f : Fin 1024) : out6 m c (ix2 t f) = out5 m c (ix2 t f) + share (istg m c) (fun s => slotBlk m c 7 (ix3 0 s f)) (org c 7) t := by
  unfold out6
  rw [pay1_eq]
  pointwise [k0_pay61, colIx]
  exact congrArg (_ + ·) (share_of_hits (istg m c) (slotBlk m c 7) t f (org c 7) _ (word7 c))
/-- The result after the last slot. -/
theorem outAt_value (c : Dev nD) (t : Fin 2048) (f : Fin 1024) : outAt m c (ix2 t f) = out6 m c (ix2 t f) + share (istg m c) (fun s => slotBlk m c 4 (ix3 0 s f)) (org c 4) t := by
  unfold outAt
  rw [pay1_eq]
  pointwise [k0_pay62, colIx]
  exact congrArg (_ + ·) (share_of_hits (istg m c) (slotBlk m c 4) t f (org c 4) _ (word4 c))

/-- The eight slots come from the eight devices, each once. -/
theorem org_bijective (c : Dev nD) : Function.Bijective (org c) := by
  refine Finite.injective_iff_bijective.1 ?_
  intro a b
  revert c a b
  decide

/-- The result of a device: what the rows of every device add. -/
theorem result_value (c : Dev nD) (t : Fin 2048) (f : Fin 1024) :
    outAt m c (ix2 t f) = ∑ o : Fin 8, share (istg m c) (fun s => prod (istg m o) (xstg m o) (wstg m o) o s f) o t := by
  rw [outAt_value, out6_value, out5_value, out4_value, out3_value, out2_value, out1_value, out0_value,
    ← (org_bijective c).sum_comp (fun o : Fin 8 => share (istg m c) (fun s => prod (istg m o) (xstg m o) (wstg m o) o s f) o t), Fin.sum_univ_eight]
  simp only [slot_value]
  ac_rfl

end Cert.Moe

end
-- ==== Proof.RefValue.lean ====
/- What the reference computes at an index: a token served by the expert it chose has its product, any other has zero. -/
module

public import proofs.«01_k».proof.Proof.Ranks
public import proofs.«01_k».proof.Proof.Gen.ReferenceIdeal
public import Idealize.ShloMosaic.Lib.IndicatorCount

@[expose] public section

noncomputable section

namespace Cert.Moe

open Cert.ReferenceIdeal Cert.ReferenceIdeal.Gen
open Idealize.ShloMosaic
open scoped BigOperators

/-- Which earlier tokens chose the same expert. -/
def refEarlier (i : Vec Ideal S2048x1 .i32) : IVec S2048x2048 1 :=
  andi (cmpi .slt (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0))))
    (cmpi .eq (broadcastInDim S2048x2048 ![0, 1] bcast_S1x2048_S2048x2048_0_1 (broadcastInDim S1x2048 ![1] bcast_S2048_S1x2048_1 (shapeCast _ i shapeCasts_S2048x1_S2048)))
      (broadcastInDim S2048x2048 ![0, 1] bcast_S2048x1_S2048x2048_0_1 (broadcastInDim S2048x1 ![0] bcast_S2048_S2048x1_0 (shapeCast _ i shapeCasts_S2048x1_S2048))))

/-- How many earlier tokens chose the same expert. -/
def refCount (i : Vec Ideal S2048x1 .i32) : IVec S2048 32 :=
  Host.reduce IntOp.addi (extui 32 (refEarlier i) natLt_1_32) (constantI S_ 32 0#32) reducesTo_S2048x2048_S2048_d1 h_S_

/-- Which tokens are served by which expert. -/
def refChosen (i : Vec Ideal S2048x1 .i32) : IVec S2048x64 1 :=
  andi (cmpi .eq (broadcastInDim S2048x64 ![0, 1] bcast_S2048x1_S2048x64_0_1 (broadcastInDim S2048x1 ![0] bcast_S2048_S2048x1_0 (shapeCast _ i shapeCasts_S2048x1_S2048)))
      (broadcastInDim S2048x64 ![0, 1] bcast_S1x64_S2048x64_0_1 (broadcastInDim S1x64 ![1] bcast_S64_S1x64_1 (iotaInDim S64 32 0))))
    (broadcastInDim S2048x64 ![0, 1] bcast_S2048x1_S2048x64_0_1 (broadcastInDim S2048x1 ![0] bcast_S2048_S2048x1_0
      (cmpi .slt (refCount i) (broadcastInDim S2048 ![] bcast_S_S2048 (constantI S_ 32 25#32)))))

/-- The reference's result. -/
def refOut (x : FVec Ideal S2048x512 .bf16) (i : Vec Ideal S2048x1 .i32) (W : FVec Ideal S64x512x1024 .bf16) : FVec Ideal S2048x1024 .f32 :=
  Host.reduceAdd (select (broadcastInDim S2048x64x1024 ![0, 1, 2] bcast_S2048x64x1_S2048x64x1024_0_1_2
      (broadcastInDim S2048x64x1 ![0, 1] bcast_S2048x64_S2048x64x1_0_1 (refChosen i)))
    (Host.dotGeneral (F := Ideal) dot_S2048x512_S64x512x1024_S2048x64x1024_1_1_0_02_n_n none x W)
    (broadcastInDim S2048x64x1024 ![] bcast_S_S2048x64x1024 (id (constant S_ .f32 0x00000000#32))))
    (constant S_ .f32 0x00000000#32) reducesTo_S2048x64x1024_S2048x1024_d1 h_S_

/-- The conjunction of two bits is one exactly when both are. -/
theorem and_bits : ∀ a b : BitVec 1, IntOp.andi a b = 1#1 ↔ a = 1#1 ∧ b = 1#1 := by decide

/-- The bit of a pair of tokens is one exactly when the second is earlier and chose the same expert. -/
theorem refEarlier_value (i : Vec Ideal S2048x1 .i32) (t s : Fin 2048) :
    refEarlier i (ix2 t s) = 1#1 ↔ s.val < t.val ∧ expertAt i s.val = expertAt i t.val := by
  have h : refEarlier i (ix2 t s) = IntOp.andi (IntOp.cmpi .slt (BitVec.ofNat 32 s.val) (BitVec.ofNat 32 t.val)) (IntOp.cmpi .eq (i (ix2 s 0)) (i (ix2 t 0))) := by
    unfold refEarlier
    pointwise []
  rw [h, and_bits, cmp_slt_one, cmp_eq_one, slt_small (by have := s.isLt; omega) (by have := t.isLt; omega),
    ← expertAt_fin i s.val s.isLt, ← expertAt_fin i t.val t.isLt]

/-- The earlier tokens with the same expert. -/
def sameBefore (i : Vec Ideal S2048x1 .i32) (t : Fin 2048) : Finset (Fin 2048) :=
  Finset.univ.filter fun s => s.val < t.val ∧ expertAt i s.val = expertAt i t.val

/-- The count of a token is the number of earlier tokens with the same expert. -/
theorem refCount_value (i : Vec Ideal S2048x1 .i32) (t : Fin 2048) : refCount i (ix1 t) = BitVec.ofNat 32 (sameBefore i t).card := by
  unfold refCount
  pointwise []
  rw [IndicatorCount.fold_addi_setWidth_eq_card]
  refine congrArg (fun S : Finset (Fin 2048) => BitVec.ofNat 32 S.card) ?_
  unfold sameBefore
  refine Finset.filter_congr fun s _ => refEarlier_value i t s

/-- For a token that chose an expert, that number is the kernel's rank. -/
theorem sameBefore_card (i : Vec Ideal S2048x1 .i32) (t : Fin 2048) (x : Fin 64) (h : expertAt i t.val = BitVec.ofNat 32 x.val) :
    (sameBefore i t).card = rk i t.val := by
  have ht := t.isLt
  rw [rk_of_expert i t.val x h]
  unfold sameBefore pre ind
  rw [Finset.card_filter, Fin.sum_univ_eq_sum_range (fun s => if s < t.val ∧ expertAt i s = expertAt i t.val then 1 else 0) 2048, h,
    ← Finset.sum_filter, ← Finset.sum_filter]
  refine Finset.sum_congr ?_ fun _ _ => rfl
  ext k
  simp only [Finset.mem_filter, Finset.mem_range]
  constructor
  · rintro ⟨_, h1, h2⟩
    exact ⟨h1, h2.symm⟩
  · rintro ⟨h1, h2⟩
    exact ⟨by omega, h1, h2.symm⟩

/-- The bit of a token and an expert is one exactly when the token chose the expert and is served. -/
theorem refChosen_value (i : Vec Ideal S2048x1 .i32) (t : Fin 2048) (x : Fin 64) :
    refChosen i (ix2 t x) = 1#1 ↔ expertAt i t.val = BitVec.ofNat 32 x.val ∧ rk i t.val < 25 := by
  have h : refChosen i (ix2 t x) = IntOp.andi (IntOp.cmpi .eq (i (ix2 t 0)) (BitVec.ofNat 32 x.val)) (IntOp.cmpi .slt (refCount i (ix1 t)) 25#32) := by
    unfold refChosen
    pointwise []
  have hc : (sameBefore i t).card < 2 ^ 31 := lt_of_le_of_lt (Finset.card_le_univ _) (by rw [Fintype.card_fin]; norm_num)
  rw [h, and_bits, cmp_slt_one, cmp_eq_one, refCount_value, show (25#32) = BitVec.ofNat 32 25 from rfl, slt_small hc (by norm_num),
    ← expertAt_fin i t.val t.isLt]
  refine and_congr_right fun he => ?_
  rw [sameBefore_card i t x ((expertAt_fin i t.val t.isLt).symm.trans he)]

/-- The value of the result: the product of a served token with its expert's weights, and zero for any other token. -/
def served (x : FVec Ideal S2048x512 .bf16) (i : Vec Ideal S2048x1 .i32) (W : FVec Ideal S64x512x1024 .bf16) (t : Fin 2048) (f : Fin 1024) : EReal :=
  ∑ e : Fin 64, if expertAt i t.val = BitVec.ofNat 32 e.val ∧ rk i t.val < 25 then ∑ d : Fin 512, x (ix2 t d) * W (ix3 e d f) else 0

/-- The reference's result at an index. -/
theorem refOut_value (x : FVec Ideal S2048x512 .bf16) (i : Vec Ideal S2048x1 .i32) (W : FVec Ideal S64x512x1024 .bf16) (t : Fin 2048) (f : Fin 1024) :
    refOut x i W (ix2 t f) = served x i W t f := by
  have hz : id (constant (F := Ideal) S_ .f32 0x00000000#32) ix0 = (0 : EReal) := by
    rw [id_eq]
    pointwise []
  unfold refOut
  pointwise []
  rw [hz]
  unfold served
  refine Finset.sum_congr rfl fun e _ => ?_
  show (if refChosen i (ix2 t e) = 1#1 then _ else _) = _
  exact if_congr (refChosen_value i t e) rfl rfl

end Cert.Moe

end
-- ==== Proof.Body.lean ====
/- The pipeline's data for one device and its body obligation. -/
module

public import proofs.«01_k».proof.Proof.Core

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

omit [FloatOps F] in
/-- A separating product over seven, written out. -/
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
/-- A separating product over eight, written out. -/
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The gather buffer whole. -/
abbrev scrPts (c : Dev nD) (f : (cc0_scratch0 : Ref sig .tc).ty.Contents (Elt F)) : sProp 𝕄 := (((c : Thread nD τ).loc cc0_scratch0) ↦{fullShare} f)

omit [FloatOps F] in
/-- The gather buffer is its eight slots. -/
theorem scr_slots (c : Dev nD) (f : (cc0_scratch0 : Ref sig .tc).ty.Contents (Elt F)) :
    scrPts c f = bigSep Finset.univ fun k : Fin 8 => slotPts fullShare c k f := by
  have hd : ∀ t ∈ (Finset.univ : Finset (Fin 8)), ∀ t' ∈ (Finset.univ : Finset (Fin 8)), t ≠ t' → Disjoint (slotSet t) (slotSet t') := by
    intro t _ t' _ h
    refine Finset.disjoint_left.mpr fun i hi hi' => h (Fin.ext ?_)
    rw [← mem_slotSet.mp hi, mem_slotSet.mp hi']
  have h := pointsTo_biUnion (Ix := Unit) (Name := ℕ) (U := UU) (Lvl := ℕ) (ℓ := (c : Thread nD τ).loc cc0_scratch0) (q := fullShare) (f := f) Finset.univ slotSet hd
  refine Eq.trans (congrArg (fun S => (((c : Thread nD τ).loc cc0_scratch0) ↦[S]{fullShare} f : sProp 𝕄)) ?_) h
  refine Finset.ext fun i => ?_
  rw [Finset.mem_biUnion]
  exact ⟨fun _ => ⟨(i : S8x256x1024.Idx) 0, Finset.mem_univ _, mem_slotSet.mpr rfl⟩, fun _ => Finset.mem_univ _⟩

/-- What stays with a device from the launch: its positions and the tokens of the duties it pays. -/
def linear (c : Dev nD) : sProp 𝕄 :=
  iprop(atPos ER (barCell c) 0 ∅ 0 ∗ dutyTok ER (barCell (prv c)) 0 true ∗ dutyTok ER (barCell (nxt c)) 0 false
    ∗ (bigSep Finset.univ fun h : Fin 7 => sendTok c h) ∗ (bigSep Finset.univ fun h : Fin 7 => atPos ER (recvCell c h) 0 ∅ 0))

/-- What the launch hands a device. -/
def start (c : Dev nD) : sProp 𝕄 :=
  iprop((∃ K, records m K ∗ linear c) ∗ cred (tallyAt (barCell c) () 2) ∗ (bigSep Finset.univ fun h : Fin 7 => cred (tallyAt (recvCell c h) () N)) ∗ levAts L lv)

/-- What the call starts from. -/
def Φ₀ (c : Dev nD) : sProp 𝕄 := iprop(start m c ∗ ∃ f, scrPts c f)
/-- What the call leaves. -/
def Φ₁ (c : Dev nD) : sProp 𝕄 :=
  iprop(scrPts c (commF m c) ∗ semVal (barCell c) 0
    ∗ (bigSep Finset.univ fun h : Fin 7 => semVal (sendCell c h) 0) ∗ (bigSep Finset.univ fun h : Fin 7 => semVal (recvCell c h) 0))

/-- The launch's data. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => istg m c
    | ⟨2, _⟩ => wstg m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
/-- A separating product over the four windows, written out. -/
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

omit [FloatOps F] in
/-- Owning a whole staging buffer. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer whole. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from. -/
def bodyPre (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
/-- What the body leaves. -/
def bodyPost (c : Dev nD) : sProp 𝕄 :=
  iprop(Φ₁ m c ∗ (dats m ρ 0 c).owesAt () t0_0.succ ∗ stg c cc0_stg0_0 (xstg m c) ∗ stg c cc0_stg1_0 (istg m c)
    ∗ stg c cc0_stg2_0 (wstg m c) ∗ stg c cc0_stg3_0 (outAt m c))

omit [FloatOps F] in
/-- The result buffer, owned whole. -/
theorem outPts_eq (c : Dev nD) (f : Vec F S2048x1024 .f32) : (((c : Thread nD τ).loc cc0_stg3_0) ↦{fullShare} f : sProp 𝕄) = outPts c f := rfl

/-- The receive credits and the positions on the receive cells, paired copy by copy. -/
theorem wait_intro (c : Dev nD) :
    iprop((bigSep Finset.univ fun h : Fin 7 => (cred (tallyAt (recvCell c h) () N) : sProp 𝕄)) ∗ (bigSep Finset.univ fun h : Fin 7 => atPos ER (recvCell c h) 0 ∅ 0))
      ⊢ bigSep Finset.univ fun h : Fin 7 => waitTok (F := F) c (recvS h) := by
  unfold waitTok; rw [← bigSep_sep']

set_option maxRecDepth 4000 in
set_option maxHeartbeats 1600000 in
/-- The body runs from what it starts from to what it leaves. -/
theorem sound_body (c : Dev nD) : bodyPre m ρ c ⊢ WP c (cc0_body (F := F) xM (Memref.isWhole_whole _) iM (Memref.isWhole_whole _) wM (Memref.isWhole_whole _) oM (Memref.isWhole_whole _) cM (Memref.isWhole_whole _) cc0_scratch1 cc0_scratch2) (fun _ => bodyPost m ρ c) := by
  unfold bodyPre Φ₀ start linear
  iintro ⟨⟨⟨⟨%K, #HR, Hat, HtP, HtN, Hst, Hrt⟩, HcB, HcR, #Hlev⟩, ⟨%f, Hscr⟩⟩, Ho, ⟨%d0, %g0, %hg0, Hx⟩, ⟨%d1, %g1, %hg1, Hi⟩, ⟨%d2, %g2, %hg2, Hw⟩, ⟨%d3, %g3, %hg3, Hout⟩⟩
  have hx : g0 = xstg m c := by rw [hg0]; unfold Dat.before; rw [if_pos (fetch0_0 t0_0)]; rfl
  have hi : g1 = istg m c := by rw [hg1]; unfold Dat.before; rw [if_pos (fetch0_1 t0_0)]; rfl
  have hw : g2 = wstg m c := by rw [hg2]; unfold Dat.before; rw [if_pos (fetch0_2 t0_0)]; rfl
  subst hx hi hw
  unfold Dat.owesAt Pipeline.owesWithin
  icases Ho with ⟨%Wt, %hW, HO⟩
  rw [show (dats m ρ 0 c).owed t0_0.castSucc = O₀ c from rfl]
  ihave Hs := (Entails.of_eq ((scr_slots c f).trans (bigSep_fin8 _))) $$ Hscr
  icases Hs with ⟨Hs0, Hs1, Hs2, Hs3, Hs4, Hs5, Hs6, Hs7⟩
  ihave Hst' := (Entails.of_eq (bigSep_fin7 _)) $$ Hst
  ihave Hwt := (wait_intro c) $$ [HcR Hrt]
  · isplitl [HcR]; · iexact HcR
    iexact Hrt
  ihave Hwt' := (Entails.of_eq (bigSep_fin7 _)) $$ Hwt
  iapply (core_body m K c)
  isplitr; · iexact HR
  isplitr; · iexact Hlev
  isplitl [HO HtP HtN HcB Hat Hs1 Hs2 Hs3 Hs4 Hs5 Hs6 Hs7]
  · unfold barPre owesE barPayT barPayF
    isplitl [HO]; · iexists Wt; iexact HO
    isplitl [HtP]; · iexact HtP
    isplitl [HtN]; · iexact HtN
    isplitl [HcB]; · iexact HcB
    isplitl [Hat]; · iexact Hat
    isplitl [Hs1 Hs2 Hs3 Hs4]
    · isplitl [Hs1]; · iexists f; iexact Hs1
      isplitl [Hs2]; · iexists f; iexact Hs2
      isplitl [Hs3]; · iexists f; iexact Hs3
      iexists f; iexact Hs4
    isplitl [Hs5]; · iexists f; iexact Hs5
    isplitl [Hs6]; · iexists f; iexact Hs6
    iexists f; iexact Hs7
  isplitl [Hs0]; · iexists f; iexact Hs0
  isplitl [Hst']; · iexact Hst'
  isplitl [Hwt']; · iexact Hwt'
  isplitl [Hx]; · iexact Hx
  isplitl [Hi]; · iexact Hi
  isplitl [Hw]; · iexact Hw
  isplitl [Hout]; · iexists g3; iapply (Entails.of_eq (outPts_eq c g3)); iexact Hout
  unfold corePost bodyPost Φ₁ owesE Dat.owesAt Pipeline.owesWithin
  rw [show (dats m ρ 0 c).owed t0_0.succ = 0 from rfl]
  iintro ⟨⟨%W', HO⟩, HzB, Hz, Hzr, Hs, Hx, Hi, Hw, Hout⟩
  isplitl [HzB Hz Hzr Hs]
  · isplitl [Hs]; · iapply (Entails.of_eq ((scr_slots c (commF m c)).trans (bigSep_fin8 _)).symm); iexact Hs
    isplitl [HzB]; · iexact HzB
    isplitl [Hz]; · iapply (Entails.of_eq (bigSep_fin7 _).symm); iexact Hz
    iapply (Entails.of_eq (bigSep_fin7 _).symm); iexact Hzr
  isplitl [HO]
  · iexists W'
    isplitr; · ipureintro; exact fun _ _ => Or.inl trivial
    iexact HO
  isplitl [Hx]
  · iexists _; isplitr; · (ipureintro; rfl)
    iexact Hx
  isplitl [Hi]
  · iexists _; isplitr; · (ipureintro; rfl)
    iexact Hi
  isplitl [Hw]
  · iexists _; isplitr; · (ipureintro; rfl)
    iexact Hw
  iexists (outAt m c); isplitr; · (ipureintro; rfl)
  iapply (Entails.of_eq (outPts_eq c (outAt m c)).symm); iexact Hout

set_option maxRecDepth 4000 in
/-- The body's obligation in the launch. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  exact sound_body m ρ c

end Body

end Cert.Moe

end
-- ==== Proof.Launch.lean ====
/- The launch: the ghost state dealt to the devices, and the run of the whole program. -/
module

public import proofs.«01_k».proof.Proof.Body
public import Idealize.ShloMosaic.Lib.Pipeline.CollectiveSegs

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's own semaphores: the fourteen of its transfers. -/
abbrev osem : Fin 14 → SemLoc sig := fun k => .dma (xS k)
/-- The place of the send (receive) semaphore of transfer `h` among them. -/
abbrev jS (h : Fin 7) : Fin 14 := ⟨h.val, by omega⟩
abbrev jV (h : Fin 7) : Fin 14 := ⟨7 + h.val, by omega⟩
/-- The place of the duty of transfer `h`'s send (receive) cell among a device's sixteen duties. -/
abbrev tS (h : Fin 7) : Fin 16 := ⟨1 + h.val, by omega⟩
abbrev tV (h : Fin 7) : Fin 16 := ⟨8 + h.val, by omega⟩

omit [FloatOps F] in
/-- Fourteen conjuncts are seven and seven. -/
theorem fin14_split (Φ : Fin 14 → sProp 𝕄) : bigSep Finset.univ Φ ⊣⊢ iprop((bigSep Finset.univ fun h : Fin 7 => Φ (jS h)) ∗ (bigSep Finset.univ fun h : Fin 7 => Φ (jV h))) := by
  have e : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) := bigSep_univ_eq_bigSepL [0, 1, 2, 3, 4, 5, 6, 7, 8, 9, 10, 11, 12, 13] (by decide) (by decide) Φ
  have eS : (bigSep Finset.univ fun h : Fin 7 => Φ (jS h)) = iprop(Φ 0 ∗ Φ 1 ∗ Φ 2 ∗ Φ 3 ∗ Φ 4 ∗ Φ 5 ∗ Φ 6) := bigSep_fin7 _
  have eV : (bigSep Finset.univ fun h : Fin 7 => Φ (jV h)) = iprop(Φ 7 ∗ Φ 8 ∗ Φ 9 ∗ Φ 10 ∗ Φ 11 ∗ Φ 12 ∗ Φ 13) := bigSep_fin7 _
  rw [e, eS, eV]
  constructor
  · iintro ⟨H0, H1, H2, H3, H4, H5, H6, H7, H8, H9, H10, H11, H12, H13⟩
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexact H7
    isplitl [H8]; · iexact H8
    isplitl [H9]; · iexact H9
    isplitl [H10]; · iexact H10
    isplitl [H11]; · iexact H11
    isplitl [H12]; · iexact H12
    iexact H13
  · iintro ⟨⟨H0, H1, H2, H3, H4, H5, H6⟩, ⟨H7, H8, H9, H10, H11, H12, H13⟩⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

omit [FloatOps F] in
/-- Fifteen conjuncts are the first, seven and seven. -/
theorem fin15_split (Φ : Fin 15 → sProp 𝕄) : bigSep Finset.univ Φ ⊣⊢ iprop(Φ 0 ∗ (bigSep Finset.univ fun h : Fin 7 => Φ (kS h)) ∗ (bigSep Finset.univ fun h : Fin 7 => Φ (kV h))) := by
  have e : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) := bigSep_univ_eq_bigSepL [0, 1, 2, 3, 4, 5, 6, 7, 8, 9, 10, 11, 12, 13, 14] (by decide) (by decide) Φ
  have eS : (bigSep Finset.univ fun h : Fin 7 => Φ (kS h)) = iprop(Φ 1 ∗ Φ 2 ∗ Φ 3 ∗ Φ 4 ∗ Φ 5 ∗ Φ 6 ∗ Φ 7) := bigSep_fin7 _
  have eV : (bigSep Finset.univ fun h : Fin 7 => Φ (kV h)) = iprop(Φ 8 ∗ Φ 9 ∗ Φ 10 ∗ Φ 11 ∗ Φ 12 ∗ Φ 13 ∗ Φ 14) := bigSep_fin7 _
  rw [e, eS, eV]
  constructor
  · iintro ⟨H0, H1, H2, H3, H4, H5, H6, H7, H8, H9, H10, H11, H12, H13, H14⟩
    isplitl [H0]; · iexact H0
    isplitl [H1 H2 H3 H4 H5 H6 H7]
    · isplitl [H1]; · iexact H1
      isplitl [H2]; · iexact H2
      isplitl [H3]; · iexact H3
      isplitl [H4]; · iexact H4
      isplitl [H5]; · iexact H5
      isplitl [H6]; · iexact H6
      iexact H7
    isplitl [H8]; · iexact H8
    isplitl [H9]; · iexact H9
    isplitl [H10]; · iexact H10
    isplitl [H11]; · iexact H11
    isplitl [H12]; · iexact H12
    isplitl [H13]; · iexact H13
    iexact H14
  · iintro ⟨H0, ⟨H1, H2, H3, H4, H5, H6, H7⟩, ⟨H8, H9, H10, H11, H12, H13, H14⟩⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

omit [FloatOps F] in
/-- Sixteen conjuncts are the first, seven, seven and the last. -/
theorem fin16_split (Φ : Fin 16 → sProp 𝕄) : bigSep Finset.univ Φ ⊣⊢ iprop(Φ 0 ∗ (bigSep Finset.univ fun h : Fin 7 => Φ (tS h)) ∗ (bigSep Finset.univ fun h : Fin 7 => Φ (tV h)) ∗ Φ 15) := by
  have e : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := bigSep_univ_eq_bigSepL [0, 1, 2, 3, 4, 5, 6, 7, 8, 9, 10, 11, 12, 13, 14, 15] (by decide) (by decide) Φ
  have eS : (bigSep Finset.univ fun h : Fin 7 => Φ (tS h)) = iprop(Φ 1 ∗ Φ 2 ∗ Φ 3 ∗ Φ 4 ∗ Φ 5 ∗ Φ 6 ∗ Φ 7) := bigSep_fin7 _
  have eV : (bigSep Finset.univ fun h : Fin 7 => Φ (tV h)) = iprop(Φ 8 ∗ Φ 9 ∗ Φ 10 ∗ Φ 11 ∗ Φ 12 ∗ Φ 13 ∗ Φ 14) := bigSep_fin7 _
  rw [e, eS, eV]
  constructor
  · iintro ⟨H0, H1, H2, H3, H4, H5, H6, H7, H8, H9, H10, H11, H12, H13, H14, H15⟩
    isplitl [H0]; · iexact H0
    isplitl [H1 H2 H3 H4 H5 H6 H7]
    · isplitl [H1]; · iexact H1
      isplitl [H2]; · iexact H2
      isplitl [H3]; · iexact H3
      isplitl [H4]; · iexact H4
      isplitl [H5]; · iexact H5
      isplitl [H6]; · iexact H6
      iexact H7
    isplitl [H8 H9 H10 H11 H12 H13 H14]
    · isplitl [H8]; · iexact H8
      isplitl [H9]; · iexact H9
      isplitl [H10]; · iexact H10
      isplitl [H11]; · iexact H11
      isplitl [H12]; · iexact H12
      isplitl [H13]; · iexact H13
      iexact H14
    iexact H15
  · iintro ⟨H0, ⟨H1, H2, H3, H4, H5, H6, H7⟩, ⟨H8, H9, H10, H11, H12, H13, H14⟩, H15⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by
  intro k k' h; revert k k'; decide
theorem kcell_injective : Function.Injective (kcell : Dev nD × Fin 15 → GSem nD τ sig) := by
  rintro ⟨c, k⟩ ⟨c', k'⟩ h
  have h1 : c = c' := by have := congrArg (fun g : GSem nD τ sig => g.1.1) h; exact this
  subst h1
  exact congrArg (Prod.mk c) (csem_injective (congrArg Prod.snd h))
def ringCells : Finset (GSem nD τ sig) := Finset.univ.map ⟨kcell, kcell_injective⟩

/-- A duty of a device's own cells: the last is the barrier's `true`, the others the fifteen cells' `false`. -/
def tokOf (cj : Dev nD × Fin 16) : GSem nD τ sig × ℕ × Bool :=
  if h : cj.2.val < 15 then (kcell (cj.1, ⟨cj.2.val, h⟩), 0, false) else (barCell cj.1, 0, true)
theorem tokOf_injective : Function.Injective (tokOf : Dev nD × Fin 16 → GSem nD τ sig × ℕ × Bool) := by
  rintro ⟨c, j⟩ ⟨c', j'⟩ h
  unfold tokOf at h
  have hj : j.val < 16 := j.isLt
  have hj' : j'.val < 16 := j'.isLt
  by_cases h1 : j.val < 15 <;> by_cases h2 : j'.val < 15
  · rw [dif_pos h1, dif_pos h2] at h
    have e := kcell_injective (congrArg Prod.fst h)
    have e1 : c = c' := congrArg Prod.fst e
    have e2 : j.val = j'.val := congrArg (fun x : Dev nD × Fin 15 => x.2.val) e
    rw [e1, Fin.ext e2]
  · rw [dif_pos h1, dif_neg h2] at h
    exact absurd (show false = true from congrArg (fun x : GSem nD τ sig × ℕ × Bool => x.2.2) h) (by decide)
  · rw [dif_neg h1, dif_pos h2] at h
    exact absurd (show true = false from congrArg (fun x : GSem nD τ sig × ℕ × Bool => x.2.2) h) (by decide)
  · rw [dif_neg h1, dif_neg h2] at h
    have e1 : c = c' := congrArg (fun x : GSem nD τ sig × ℕ × Bool => x.1.1.1) h
    rw [e1, show j = j' from Fin.ext (by omega)]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop(dutyTok ER (barCell c) 0 false ∗ (bigSep Finset.univ fun h : Fin 7 => dutyTok ER (sendCell c h) 0 false)
    ∗ (bigSep Finset.univ fun h : Fin 7 => dutyTok ER (recvCell c h) 0 false) ∗ dutyTok ER (barCell c) 0 true)

theorem tokOf_bar (c : Dev nD) : tokOf (c, 0) = (barCell c, 0, false) := rfl
theorem tokOf_last (c : Dev nD) : tokOf (c, 15) = (barCell c, 0, true) := rfl
theorem tokOf_send (c : Dev nD) (h : Fin 7) : tokOf (c, tS h) = (sendCell c h, 0, false) := by
  unfold tokOf
  rw [dif_pos (show 1 + h.val < 15 by omega), show (⟨1 + h.val, by omega⟩ : Fin 15) = kS h from rfl, kcell_send]
theorem tokOf_recv (c : Dev nD) (h : Fin 7) : tokOf (c, tV h) = (recvCell c h, 0, false) := by
  unfold tokOf
  rw [dif_pos (show 8 + h.val < 15 by omega), show (⟨8 + h.val, by omega⟩ : Fin 15) = kV h from rfl, kcell_recv]

omit [FloatOps F] in
theorem toks_intro (c : Dev nD) :
    (bigSep Finset.univ fun j : Fin 16 => (dutyTok ER (tokOf (c, j)).1 (tokOf (c, j)).2.1 (tokOf (c, j)).2.2 : sProp 𝕄)) ⊢ toks c := by
  refine (fin16_split _).1.trans (Entails.of_eq ?_)
  simp only [tokOf_send, tokOf_recv, tokOf_bar, tokOf_last]
  rfl

/-- What the launch deals device `c`. -/
def G (c : Dev nD) : sProp 𝕄 :=
  iprop((bigSep Finset.univ fun k : Fin 15 => roundState ER (rd m) (kcell (c, k)) 0)
    ∗ (bigSep Finset.univ fun k : Fin 15 => iprop(atPos ER (kcell (c, k)) 0 ∅ 0 ∗ reached ER (kcell (c, k)) 0)) ∗ toks c)
/-- What the global step makes of it. -/
def G' (c : Dev nD) : sProp 𝕄 := iprop(∃ K, records m K ∗ linear c)

/-- The ring funds its tokens. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 15 => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    exact bigSep_mono fun c _ => toks_intro c
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

omit [FloatOps F] in
/-- The kernel's own semaphores are the sends' and the receives'. -/
theorem ownSems0_split (c : Dev nD) : (Pipeline.ownSems0 (Ix := Unit) (Name := ℕ) (U := UU) (Lvl := ℕ) (Val := Elt F) (τ := τ) osem c : sProp 𝕄)
    ⊣⊢ iprop((bigSep Finset.univ fun h : Fin 7 => semVal (sendCell c h) 0) ∗ (bigSep Finset.univ fun h : Fin 7 => semVal (recvCell c h) 0)) := by
  have hS : ∀ h : Fin 7, (((c : Thread nD τ), osem (jS h)) : GSem nD τ sig) = sendCell c h := fun h => rfl
  have hV : ∀ h : Fin 7, (((c : Thread nD τ), osem (jV h)) : GSem nD τ sig) = recvCell c h := by
    intro h; have : osem (jV h) = .dma (recvS h) := by revert h; decide
    rw [this]
  have e := fin14_split (F := F) fun k : Fin 14 => semVal ((c : Thread nD τ), osem k) 0
  simp only [hS, hV] at e
  exact e
omit [FloatOps F] in
/-- The barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_intro (c : Dev nD) :
    iprop(Pipeline.ownSems0 (Ix := Unit) (Name := ℕ) (U := UU) (Lvl := ℕ) (Val := Elt F) (τ := τ) osem c ∗ unscopedSems0 c)
      ⊢ (bigSep Finset.univ fun k : Fin 15 => semVal (kcell (c, k)) 0 : sProp 𝕄) := by
  have e := (fin15_split (F := F) fun k : Fin 15 => semVal (kcell (c, k)) 0).2
  simp only [kcell_send, kcell_recv, kcell_bar] at e
  refine .trans ?_ e
  rw [unscopedSems0_eq]
  iintro ⟨HO, HB⟩
  isplitl [HB]; · iexact HB
  iapply (ownSems0_split c).1; iexact HO

/-- The ring's cells, set up. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_intro (F := F) c) $$ [Hos Hus]
  · isplitl [Hos] <;> iassumption
  imod (show iprop((bigSep Finset.univ fun k : Fin 15 => semVal (kcell (c, k)) 0) ∗ bigSep Finset.univ fun k : Fin 15 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties a device pays, its own sends' among them. -/
def payToks (c : Dev nD) : sProp 𝕄 :=
  iprop(dutyTok ER (barCell (nxt c)) 0 false ∗ (bigSep Finset.univ fun h : Fin 7 => dutyTok ER (sendCell c h) 0 false)
    ∗ (bigSep Finset.univ fun h : Fin 7 => dutyTok ER (recvCell (tgt c h) h) 0 false) ∗ dutyTok ER (barCell (prv c)) 0 true)

omit [FloatOps F] in
/-- Every device's token of one transfer's receive, dealt to the device that transfers to it. -/
theorem recv_around (h : Fin 7) :
    (bigSep Finset.univ fun c : Dev nD => (dutyTok ER (recvCell c h) 0 false : sProp 𝕄))
      = bigSep Finset.univ fun c : Dev nD => dutyTok ER (recvCell (tgt c h) h) 0 false := by
  have e : Function.Bijective fun c : Dev nD => tgt c h := by revert h; decide
  rw [bigSep_univ_equiv (Equiv.ofBijective _ e) (fun c : Dev nD => (dutyTok ER (recvCell c h) 0 false : sProp 𝕄))]
  rfl

omit [FloatOps F] in
/-- The same, for the tokens handed round the ring. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv ring (fun c : Dev nD => (dutyTok ER (barCell c) 0 false : sProp 𝕄)),
    bigSep_univ_equiv ring.symm (fun c : Dev nD => (dutyTok ER (barCell c) 0 true : sProp 𝕄))]
  iintro ⟨H1, H2, H3, H4⟩
  isplitl [H1]; · iexact H1
  isplitl [H2]; · iexact H2
  isplitl [H3]
  · iapply (Entails.of_eq ((bigSep_univ_comm (fun (c : Dev nD) (h : Fin 7) => (dutyTok ER (recvCell c h) 0 false : sProp 𝕄))).trans
      ((bigSep_congr (s := Finset.univ) (fun (h : Fin 7) _ => recv_around (F := F) h)).trans
        (bigSep_univ_comm (fun (c : Dev nD) (h : Fin 7) => (dutyTok ER (recvCell (tgt c h) h) 0 false : sProp 𝕄))).symm)))
    iexact H3
  iexact H4

omit [FloatOps F] in
/-- A device's positions and pay tokens, regrouped by transfer. -/
theorem linear_intro (c : Dev nD) :
    iprop((bigSep Finset.univ fun k : Fin 15 => atPos ER (kcell (c, k)) 0 ∅ 0) ∗ payToks c) ⊢ (linear c : sProp 𝕄) := by
  have e := (fin15_split (F := F) fun k : Fin 15 => atPos ER (kcell (c, k)) 0 ∅ 0).1
  simp only [kcell_send, kcell_recv, kcell_bar] at e
  unfold payToks linear sendTok
  simp only [bigSep_sep']
  iintro ⟨Hat, HbF, HS, HV, HbT⟩
  ihave Hat' := e $$ Hat
  icases Hat' with ⟨HaB, HaS, HaV⟩
  isplitl [HaB]; · iexact HaB
  isplitl [HbT]; · iexact HbT
  isplitl [HbF]; · iexact HbF
  isplitl [HS HV HaS]
  · isplitl [HS]; · iexact HS
    isplitl [HV]; · iexact HV
    iexact HaS
  iexact HaV

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The tokens of all devices, dealt out to the devices that use them. -/
theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 15 => iprop(∃ κ : ℕ, cellInv ER (rd m) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨HI, ⟨Hat, #HR⟩, Htok⟩
  ihave HK := (BI.bigSep_exists_pi Finset.univ (fun (ck : Dev nD × Fin 15) (κ : ℕ) => (cellInv ER (rd m) κ (kcell ck) : sProp 𝕄))) $$ HI
  icases HK with ⟨%K, #HI⟩
  ihave Htk := (toks_around (F := F)) $$ Htok
  iapply (bigSep_with_persistent (R := records m K) (Φ := fun c => linear c) fun c _ => show iprop(records m K ∗ linear c) ⊢ G' m c by
    unfold G'; iintro ⟨#HA, HB⟩; iexists K; isplitr; · iexact HA
    iexact HB)
  isplitr
  · unfold records; isplitl; · iexact HI
    iexact HR
  · iapply ((Entails.of_eq (bigSep_sep' Finset.univ (fun c : Dev nD => bigSep Finset.univ fun k : Fin 15 => (atPos ER (kcell (c, k)) 0 ∅ 0 : sProp 𝕄)) payToks).symm).trans
      (bigSep_mono fun c _ => linear_intro (F := F) c))
    isplitl [Hat]; · iexact Hat
    iexact Htk

/-- The global step over every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem bar_eq_iff {a b : Dev nD} : Iff (barCell a = barCell b) (a = b) :=
  ⟨fun h => Fin.ext (congrArg (fun g : GSem nD τ sig => g.1.1.val) h), fun h => h ▸ rfl⟩
theorem recv_inj {a b : Dev nD} {h k : Fin 7} (e : recvCell a h = recvCell b k) : a = b ∧ h = k := by
  refine ⟨Fin.ext (congrArg (fun g : GSem nD τ sig => g.1.1.val) e), ?_⟩
  have e2 : (SemLoc.dma (recvS h) : SemLoc sig) = .dma (recvS k) := congrArg Prod.snd e
  have e3 : recvS h = recvS k := by injection e2
  have e4 : 11 + h.val = 11 + k.val := congrArg (fun q : DmaSem sig => q.val) e3
  exact Fin.ext (by omega)
theorem recv_ne_bar {a b : Dev nD} {h : Fin 7} : recvCell a h ≠ barCell b := fun e => by
  have e2 : (SemLoc.dma (recvS h) : SemLoc sig) = .reg barS := congrArg Prod.snd e
  cases e2

theorem owedX_bar (d c : Dev nD) (l : List (Fin 7)) : owedX d l (barCell c) () = 0 := by
  induction l with
  | nil => rfl
  | cons h l ih =>
    unfold owedX
    rw [Pi.add_apply, Finsupp.add_apply, ih, tallyAt_ne_cell (fun e => recv_ne_bar e.symm), Finsupp.zero_apply, Nat.add_zero]

theorem owedX_recv (d c : Dev nD) (h : Fin 7) (l : List (Fin 7)) (hl : l.Nodup) :
    owedX d l (recvCell c h) () = if h ∈ l ∧ c = tgt d h then N else 0 := by
  induction l with
  | nil => rw [if_neg (by simp)]; rfl
  | cons k l ih =>
    unfold owedX
    rw [Pi.add_apply, Finsupp.add_apply, ih (List.nodup_cons.mp hl).2]
    have hk : k ∉ l := (List.nodup_cons.mp hl).1
    by_cases e : h = k
    · subst e
      rw [if_neg (fun x => hk x.1), Nat.zero_add, tallyAt_apply]
      by_cases e2 : c = tgt d h
      · rw [if_pos ⟨by rw [e2], rfl⟩, if_pos ⟨List.mem_cons_self, e2⟩]
      · rw [if_neg (fun x => e2 (recv_inj x.1).1), if_neg (fun x => e2 x.2)]
    · rw [tallyAt_ne_cell (fun x => e (recv_inj x).2), Finsupp.zero_apply, Nat.add_zero]
      refine if_congr ?_ rfl rfl
      rw [List.mem_cons]
      exact ⟨fun x => ⟨Or.inr x.1, x.2⟩, fun x => ⟨x.1.resolve_left e, x.2⟩⟩

theorem owed_bar (d c : Dev nD) : O₀ d (barCell c) () = (if d = prv c then 1 else 0) + (if d = nxt c then 1 else 0) := by
  unfold O₀ O₁
  rw [Pi.add_apply, Finsupp.add_apply, Pi.add_apply, Finsupp.add_apply, owedX_bar, tallyAt_apply, tallyAt_apply, Nat.zero_add]
  congr 1
  · by_cases h : d = prv c
    · subst h; rw [nxt_prv, if_pos ⟨rfl, rfl⟩, if_pos rfl]
    · rw [if_neg (fun ⟨h1, _⟩ => h (by rw [← prv_nxt d]; exact congrArg prv (bar_eq_iff.mp h1).symm)), if_neg h]
  · by_cases h : d = nxt c
    · subst h; rw [prv_nxt, if_pos ⟨rfl, rfl⟩, if_pos rfl]
    · rw [if_neg (fun ⟨h1, _⟩ => h (by rw [← nxt_prv d]; exact congrArg nxt (bar_eq_iff.mp h1).symm)), if_neg h]

theorem owed_recv (d c : Dev nD) (h : Fin 7) : O₀ d (recvCell c h) () = if d = snd c h then N else 0 := by
  unfold O₀ O₁
  rw [Pi.add_apply, Finsupp.add_apply, Pi.add_apply, Finsupp.add_apply, owedX_recv d c h order (by decide),
    tallyAt_ne_cell recv_ne_bar, tallyAt_ne_cell recv_ne_bar, Finsupp.zero_apply, Nat.add_zero, Nat.add_zero]
  refine if_congr ?_ rfl rfl
  have hm : h ∈ order := by revert h; decide
  exact ⟨fun x => by rw [x.2, snd_tgt], fun x => ⟨hm, by rw [x, tgt_snd]⟩⟩

/-- The credit owed on a barrier cell. -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

/-- The credit owed on a receive cell. -/
theorem launch_recv (c : Dev nD) (h : Fin 7) :
    tallyOn (recvCell c h) (launchCredit (Pipeline.owing O₀) 0 (recvCell c h)) = (tallyAt (recvCell c h) () N : CellTallies nD τ sig Unit) := by
  unfold tallyAt; refine congrArg _ (Finsupp.ext fun u => ?_); cases u
  rw [Pipeline.launchCredit_owing, Finsupp.single_eq_same, Finset.sum_congr rfl fun d _ => owed_recv d c h, Finset.sum_ite_eq' Finset.univ (snd c h) fun _ => N,
    if_pos (Finset.mem_univ _)]

theorem recvSem_injective : Function.Injective fun h : Fin 7 => (SemLoc.dma (recvS h) : SemLoc sig) := by
  intro a b h; revert a b; decide

omit [FloatOps F] in
/-- The credits of a device at the launch. -/
theorem creds (c : Dev nD) :
    (Pipeline.launchCred O₀ c : sProp 𝕄) ⊢ iprop(cred (tallyAt (barCell c) () 2) ∗ bigSep Finset.univ fun h : Fin 7 => cred (tallyAt (recvCell c h) () N)) := by
  unfold Pipeline.launchCred
  rw [bigSep_univ_at _ (SemLoc.reg barS), launch_bar]
  refine sep_mono_right ?_
  have hm : (bigSep Finset.univ fun h : Fin 7 => (cred (tallyAt (recvCell c h) () N) : sProp 𝕄))
      = bigSep (Finset.univ.map ⟨_, recvSem_injective⟩) fun sm : SemLoc sig => cred (tallyOn ((c : Thread nD τ), sm) (launchCredit (Pipeline.owing O₀) 0 ((c : Thread nD τ), sm))) := by
    rw [bigSep_map]; exact bigSep_congr fun h _ => by rw [← launch_recv]; rfl
  rw [hm]
  refine bigSep_subset ?_
  intro sm hsm
  obtain ⟨h, -, rfl⟩ := Finset.mem_map.mp hsm
  exact Finset.mem_erase.mpr ⟨fun e => absurd e (by simp), Finset.mem_univ _⟩

/-! ### The side conditions -/

/-- The argument no window reads, whole at its contents. -/
abbrev restPts (c : Dev nD) : sProp 𝕄 := (((c : Thread nD τ).loc main_arg1) ↦{fullShare} m ((c : Thread nD τ).loc main_arg1))

/-- What a device has at the launch gives what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ restPts m c) := by
  rw [Pipeline.unscopedRestP_none, unscopedRest0_eq]
  iintro ⟨Hr, Hlev, Hcr, -, HG⟩
  ihave Hc := (creds (F := F) c) $$ Hcr
  icases Hc with ⟨H1, HN⟩
  imodintro
  unfold start G'
  isplitl [HG H1 HN Hlev]
  · isplitl [HG]; · iexact HG
    isplitl [H1]; · iexact H1
    isplitl [HN]; · iexact HN
    iexact Hlev
  · iexact Hr

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

/-- What the body leaves gives what the launch asks. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq, unscopedSems0_eq]
  unfold Φ₁
  iintro ⟨Hr, HzB, HzS, HzV⟩
  isplitl [HzB]; · iexact HzB
  isplitl [HzS HzV]
  · iapply (ownSems0_split c).2
    isplitl [HzS] <;> iassumption
  iexists (commF m c); iexact Hr

/-- A device's waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

/-- What a window's array holds at the end. -/
def finalA (c : Dev nD) (w : Fin cfg0.W) : Buf (Elt F) ((cfg0.win w).arr.view.loc (c : Thread nD τ)) := (dats m ρ 0 c).arrAt w cfg0.N

/-- What every device holds at the end of a run. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

/-- What the end of a run reads of a device beside the windows' arrays. -/
theorem rest_read (c : Dev nD) (s' : Phys nD τ sig (Elt F)) :
    iprop(unscopedSems0 c ∗ restPts m c ∗ SI s')
      ⊢ |={Set.univ}=> (iprop(⌜(∀ sm : SemLoc sig, sm.isScoped .tc = false → s'.mem.sem ((c.tc : Thread nD τ), sm) = 0)
        ∧ s'.mem.mem ((c : Thread nD τ).loc main_arg1) = m ((c : Thread nD τ).loc main_arg1)⌝ ∗ SI s') : sProp 𝕄) := by
  iintro ⟨Hu, Hr, HSI⟩
  imod (Pipeline.unscopedSems0_read (X := unscopedSems0 c) (c := c) fupd_intro s') $$ [Hu HSI] with ⟨%h1, HSI⟩
  · isplitl [Hu] <;> iassumption
  have e : (bigSep ({()} : Finset Unit) fun _ => restPts m c) = restPts m c := bigSep_singleton
  ihave H := (pointsTo_read_all ({()} : Finset Unit) (fun _ => (c : Thread nD τ).loc main_arg1) (fun _ => m ((c : Thread nD τ).loc main_arg1)) s') $$ [Hr HSI]
  · isplitl [Hr]
    · iapply (Entails.of_eq e.symm); iexact Hr
    iexact HSI
  icases H with ⟨%h2, HSI⟩
  imodintro
  isplitr
  · ipureintro; exact ⟨h1, h2 () (Finset.mem_singleton_self _)⟩
  iexact HSI

set_option maxRecDepth 8000 in
/-- From any memory with zero counters every fair execution of the program terminates, each device's result array at the
    computed contents, its arguments unchanged, every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := restPts m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := rest_read m)
    (hQ := fun _ h hs => ⟨fun c => ⟨fun w => (h c).1 w, (h c).2.2.2⟩, sem_eq_zero hs fun c => (h c).2.2.1⟩)

end Cert.Moe

end
-- ==== Proof.Frames.lean ====
/- The frames: each program runs, keeps its arguments and ends with every counter at zero. -/
module

public import proofs.«01_k».proof.Proof.Launch
public import proofs.«01_k».proof.Defs
public import proofs.«01_k».proof.Proof.Gen.Kernel
public import proofs.«01_k».proof.Proof.Gen.ReferenceIdeal
public import proofs.«01_k».proof.Proof.Gen.ReferenceIdeal.Run

@[expose] public section

noncomputable section

namespace Cert.Moe

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- No argument window writes back: each argument's array ends as it began. -/
theorem finalA_arg (c : Dev nD) :
    finalA m ρ c (0 : Fin 4) = m ((c : Thread nD τ).loc main_arg0) ∧ finalA m ρ c (1 : Fin 4) = m ((c : Thread nD τ).loc main_arg2)
      ∧ finalA m ρ c (2 : Fin 4) = m ((c : Thread nD τ).loc main_arg3) :=
  ⟨(dats (F := F) m ρ 0 c).arrAt_in (0 : Fin 4) rfl _, (dats (F := F) m ρ 0 c).arrAt_in (1 : Fin 4) rfl _,
    (dats (F := F) m ρ 0 c).arrAt_in (2 : Fin 4) rfl _⟩

/-- The arguments at the end of a run. -/
theorem args_kept {r : PUnit × MemSt nD τ sig (Elt F)} (h : QC m ρ r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  ⟨((h c).1 (0 : Fin 4)).trans (finalA_arg m ρ c).1, (h c).2, ((h c).1 (1 : Fin 4)).trans (finalA_arg m ρ c).2.1,
    ((h c).1 (2 : Fin 4)).trans (finalA_arg m ρ c).2.2⟩

/-- The run with its values dropped, over any float values. -/
theorem run_frame : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run defs _ _).mono (fun _ h => ⟨args_kept m ρ h.1, h.2⟩) (run_main m ρ)

/-- The frame of the kernel idealized. -/
theorem frame_ideal : Cert.quiescent_KernelIdeal := fun m ρ _ => run_frame (F := Ideal) m ρ

/-- The two programs have the same bodies. -/
theorem bodies_eq : Cert.Kernel.defs₀ (F := F) = Cert.KernelIdeal.defs₀ := by
  unfold Cert.Kernel.defs₀ Cert.KernelIdeal.defs₀
  refine congrArg Defs.onTc ?_
  funext l a
  match l with
  | 0 => rfl

/-- The two programs have the same definitions. -/
theorem defs_same : Cert.Kernel.defs (F := F) = Cert.KernelIdeal.defs :=
  congrArg (Pipeline.defs (Cert.KernelIdeal.pcfgs (F := F))) bodies_eq

/-- The frame of the kernel. -/
theorem frame_kernel : Cert.quiescent_Kernel := fun m ρ _ =>
  Eq.mpr (congrArg (fun D => (θ_run D (onTc (τ := τ) (main (F := Bits))) (s₀ m ρ)) fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) (defs_same (F := Bits))) (run_frame (F := Bits) m ρ)

/-- The reference is a host program that declares no semaphore. -/
theorem frame_ref : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- The result's array, read back whole, is what the body left in the staging buffer. -/
theorem finalA_out (c : Dev nD) : (win0_3.blk (0 : Fin 1)).view.read (Elt F) (finalA m ρ c (3 : Fin 4)) = outAt m c := by
  unfold finalA
  rw [show cfg0.N = ((0 : Fin 1) : Fin cfg0.N).val + 1 from rfl, (dats m ρ 0 c).arrAt_succ (3 : Fin 4) (0 : Fin 1)]
  rw [show (cfg0.win (3 : Fin 4)).flush (0 : Fin 1) = true from flush0_3 _, if_pos rfl]
  exact View.read_write_univ _ _

/-- The result's array ends at the value the body computed. -/
theorem finalA_result (c : Dev nD) : finalA m ρ c (3 : Fin 4) = outAt m c := by
  have hz : (fun a => (win0_3.index (0 : Fin 1)) a * main_v1.ty.shape.size a) = fun _ => 0 :=
    funext fun a => by fin_cases a <;> decide
  have hr := fun f => Memref.read_access_unit_zero (Elt F) main_v1 hz (fun a => by fin_cases a <;> decide) f
  have ho := finalA_out m ρ c
  exact (hr _).symm.trans ho

end Cert.Moe

end
-- ==== Proof.Algebraic.lean ====
/- The value claim: every device's result is the reference's. -/
module

public import proofs.«01_k».proof.Proof.Slots
public import proofs.«01_k».proof.Proof.RefValue
public import proofs.«01_k».proof.Proof.Frames

@[expose] public section

noncomputable section

namespace Cert.Moe

open Cert.KernelIdeal Cert.KernelIdeal.Gen
open Idealize.ShloMosaic
open Idealize.ShloMosaic.TcCoe
open Idealize.SL.Sem
open scoped BigOperators

/-! ## A sum over devices and rows that has one term -/

/-- Two experts that a token chose are one. -/
theorem expert_inj {a b : ℕ} (ha : a < 64) (hb : b < 64) (h : BitVec.ofNat 32 a = BitVec.ofNat 32 b) : a = b := by
  have e := congrArg BitVec.toNat h
  rw [BitVec.toNat_ofNat, BitVec.toNat_ofNat] at e
  omega

/-- A served token has one row on one device. -/
theorem hit_served (i : Vec Ideal S2048x1 .i32) (t e o s : ℕ) (he : e < 64) (ho : o < 8) (hs : s < 256) (h : expertAt i t = BitVec.ofNat 32 e) (hr : rk i t < 25) :
    hit i o t s = if o = e / 8 ∧ s = 32 * (e % 8) + rk i t then 1 else 0 := by
  unfold hit
  refine if_congr ?_ rfl rfl
  rw [h]
  constructor
  · rintro ⟨h1, _, h2⟩
    have := expert_inj he (by omega) h1
    omega
  · rintro ⟨h1, h2⟩
    refine ⟨congrArg _ ?_, hr, ?_⟩ <;> omega

/-- Earlier tokens with the same expert have smaller ranks. -/
theorem rk_lt (i : Vec Ideal S2048x1 .i32) {a b : ℕ} (x : Fin 64) (ha : expertAt i a = BitVec.ofNat 32 x.val) (hb : expertAt i b = BitVec.ofNat 32 x.val)
    (h : a < b) : rk i a < rk i b := by
  rw [rk_of_expert i a x ha, rk_of_expert i b x hb]
  have h1 : pre i (a + 1) x = pre i a x + 1 := by
    unfold pre
    rw [Finset.sum_range_succ]
    refine congrArg (_ + ·) ?_
    unfold ind
    rw [if_pos ha.symm]
  have h2 : pre i (a + 1) x ≤ pre i b x := by
    unfold pre
    exact Finset.sum_le_sum_of_subset (Finset.range_mono h)
  omega

/-- Two tokens with the same expert and the same rank are one. -/
theorem rk_inj (i : Vec Ideal S2048x1 .i32) {a b : ℕ} (x : Fin 64) (ha : expertAt i a = BitVec.ofNat 32 x.val) (hb : expertAt i b = BitVec.ofNat 32 x.val)
    (h : rk i a = rk i b) : a = b := by
  rcases Nat.lt_trichotomy a b with hl | hl | hl
  · have := rk_lt i x ha hb hl; omega
  · exact hl
  · have := rk_lt i x hb ha hl; omega

/-- The row of a served token holds that token alone. -/
theorem hit_row (i : Vec Ideal S2048x1 .i32) (t t' : ℕ) (x : Fin 64) (h : expertAt i t = BitVec.ofNat 32 x.val) (hr : rk i t < 25) :
    hit i (x.val / 8) t' (32 * (x.val % 8) + rk i t) = if t' = t then 1 else 0 := by
  unfold hit
  refine if_congr ?_ rfl rfl
  have hx : 8 * (x.val / 8) + (32 * (x.val % 8) + rk i t) / 32 = x.val := by omega
  rw [hx]
  constructor
  · rintro ⟨h1, _, h2⟩
    exact rk_inj i x h1 h (by omega)
  · rintro rfl
    exact ⟨h, hr, by omega⟩

/-- The part of a device's weights in the whole. -/
theorem block_value (W : FVec Ideal ⟨3, ![64, 512, 1024]⟩ .bf16) (o : Fin 8) (j : Fin 8) (d : Fin 512) (f : Fin 1024) :
    Layout.block ⟨3, ![8, 512, 1024]⟩ ⟨3, ![64, 512, 1024]⟩ 0 8 o W (by decide) (ix3 j d f)
      = W (ix3 ⟨o.val * 8 + j.val, by have := o.isLt; have := j.isLt; omega⟩ d f) := by
  refine congrArg W (funext fun a => Fin.ext ?_)
  fin_cases a <;> rfl

/-- What all devices' rows add to a token is the reference's value. -/
theorem shares_served (i : Vec Ideal S2048x1 .i32) (x : FVec Ideal S2048x512 .bf16) (W : FVec Ideal ⟨3, ![64, 512, 1024]⟩ .bf16) (t : Fin 2048) (f : Fin 1024) :
    (∑ o : Fin 8, share i (fun s => prod i x (Layout.block ⟨3, ![8, 512, 1024]⟩ ⟨3, ![64, 512, 1024]⟩ 0 8 o W (by decide)) o s f) o t) = served x i W t f := by
  by_cases h : ∃ e : Fin 64, expertAt i t.val = BitVec.ofNat 32 e.val ∧ rk i t.val < 25
  · obtain ⟨e, he, hr⟩ := h
    have hel := e.isLt
    have hR : served x i W t f = ∑ d : Fin 512, x (ix2 t d) * W (ix3 e d f) := by
      unfold served
      rw [Finset.sum_eq_single e, if_pos ⟨he, hr⟩]
      · intro y _ hy
        refine if_neg fun hh => hy (Fin.ext (expert_inj y.isLt hel (hh.1.symm.trans he)))
      · intro hn; exact absurd (Finset.mem_univ e) hn
    rw [hR, Finset.sum_eq_single (⟨e.val / 8, by omega⟩ : Fin 8)]
    · unfold share
      rw [Finset.sum_eq_single (⟨32 * (e.val % 8) + rk i t.val, by omega⟩ : Fin 256)]
      · rw [hit_served i t.val e.val _ _ hel (by dsimp only; omega) (by dsimp only; omega) he hr, if_pos ⟨rfl, rfl⟩, Nat.cast_one, one_mul]
        unfold prod
        refine Finset.sum_congr rfl fun d _ => ?_
        have hx : (∑ t' : Fin 2048, ((hit i (e.val / 8) t'.val (32 * (e.val % 8) + rk i t.val) : ℕ) : EReal) * x (ix2 t' d)) = x (ix2 t d) := by
          rw [Finset.sum_eq_single t]
          · rw [hit_row i t.val t.val e he hr, if_pos rfl, Nat.cast_one, one_mul]
          · intro y _ hy
            rw [hit_row i t.val y.val e he hr, if_neg (fun h => hy (Fin.ext h)), Nat.cast_zero, zero_mul]
          · intro hn; exact absurd (Finset.mem_univ t) hn
        refine congrArg₂ (· * ·) hx ?_
        rw [block_value]
        refine congrArg (fun e : Fin 64 => W (ix3 e d f)) (Fin.ext ?_)
        dsimp only
        omega
      · intro s _ hs
        rw [hit_served i t.val e.val _ _ hel (by dsimp only; omega) s.isLt he hr, if_neg (fun h => hs (Fin.ext h.2)), Nat.cast_zero, zero_mul]
      · intro hn; exact absurd (Finset.mem_univ _) hn
    · intro o _ ho
      unfold share
      refine Finset.sum_eq_zero fun s _ => ?_
      rw [hit_served i t.val e.val _ _ hel o.isLt s.isLt he hr, if_neg (fun h => ho (Fin.ext h.1)), Nat.cast_zero, zero_mul]
    · intro hn; exact absurd (Finset.mem_univ _) hn
  · have hR : served x i W t f = 0 := Finset.sum_eq_zero fun e _ => if_neg fun hh => h ⟨e, hh⟩
    rw [hR]
    refine Finset.sum_eq_zero fun o _ => Finset.sum_eq_zero fun s _ => ?_
    have h0 : hit i o.val t.val s.val = 0 := by
      unfold hit
      refine if_neg fun hh => h ⟨⟨8 * o.val + s.val / 32, ?_⟩, hh.1, hh.2.1⟩
      have := o.isLt; have := s.isLt; omega
    rw [h0, Nat.cast_zero, zero_mul]

/-! ## What a device holds -/

variable (m : (ℓ : Loc nD τ sig) → Buf (Elt Ideal) ℓ)

/-- The staged tokens are the whole argument. -/
theorem xstg_eq (c : Dev nD) : xstg m c = m ((c : Thread nD τ).loc main_arg0) := by
  have hz : (fun a => (win0_0.index (0 : Fin 1)) a * main_arg0.ty.shape.size a) = fun _ => 0 := funext fun a => by fin_cases a <;> decide
  exact Memref.read_access_unit_zero (Elt Ideal) main_arg0 hz (fun a => by fin_cases a <;> decide) _

/-- The staged expert numbers are the whole argument. -/
theorem istg_eq (c : Dev nD) : istg m c = m ((c : Thread nD τ).loc main_arg2) := by
  have hz : (fun a => (win0_1.index (0 : Fin 1)) a * main_arg2.ty.shape.size a) = fun _ => 0 := funext fun a => by fin_cases a <;> decide
  exact Memref.read_access_unit_zero (Elt Ideal) main_arg2 hz (fun a => by fin_cases a <;> decide) _

/-- The staged weights are the whole of the device's argument. -/
theorem wstg_eq (c : Dev nD) : wstg m c = m ((c : Thread nD τ).loc main_arg3) := by
  have hz : (fun a => (win0_2.index (0 : Fin 1)) a * main_arg3.ty.shape.size a) = fun _ => 0 := funext fun a => by fin_cases a <;> decide
  exact Memref.read_access_unit_zero (Elt Ideal) main_arg3 hz (fun a => by fin_cases a <;> decide) _

/-- A device's result, from memories that agree with the whole arrays. -/
theorem result_eq (x : FVec Ideal S2048x512 .bf16) (i : Vec Ideal S2048x1 .i32) (W : FVec Ideal ⟨3, ![64, 512, 1024]⟩ .bf16)
    (hx : ∀ c : Dev nD, m ((c : Thread nD τ).loc main_arg0) = x) (hi : ∀ c : Dev nD, m ((c : Thread nD τ).loc main_arg2) = i)
    (hW : ∀ c : Dev nD, m ((c : Thread nD τ).loc main_arg3) = Layout.block ⟨3, ![8, 512, 1024]⟩ ⟨3, ![64, 512, 1024]⟩ 0 8 c W (by decide)) (c : Dev nD) :
    outAt m c = refOut x i W := by
  funext j
  have hj : j = ix2 (j 0) (j 1) := funext fun a => by fin_cases a <;> rfl
  rw [hj]
  refine (result_value m c (j 0) (j 1)).trans (Eq.trans ?_ (refOut_value x i W (j 0) (j 1)).symm)
  refine Eq.trans ?_ (shares_served i x W (j 0) (j 1))
  refine Finset.sum_congr rfl fun o _ => ?_
  rw [istg_eq m c, istg_eq m o, xstg_eq m o, wstg_eq m o, hi c, hi o, hx o, hW o]

/-- Every device's result is the reference's, the arguments unchanged. -/
theorem algebraic : Cert.algebraic_KernelIdeal_ReferenceIdeal := by
  intro m g m' g' _ h
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run (Cert.KernelIdeal.defs (F := Ideal)) _ _).mono (fun r hr c => ?_) (run_main m g)
    exact ⟨(((hr.1 c).1 (3 : Fin 4)).trans (finalA_result m g c)).trans
      (result_eq m _ _ _ (fun c => (h c).1) (fun c => (h c).2.2.1) (fun c => (h c).2.2.2) c), args_kept m g hr.1 c⟩
  · exact (θ_run (Cert.ReferenceIdeal.defs (F := Ideal)) _ _).mono (fun r hr => hr 0) (Cert.ReferenceIdeal.Value.run (F := Ideal) m' g')

end Cert.Moe

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts,
    Cert.Moe.frame_kernel, Cert.Moe.frame_ideal, Cert.Moe.frame_ref, trivial, Cert.Moe.algebraic⟩

end Cert.Proof

end
